-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v211) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x2048 : Shape := ⟨3, ![6, 4096, 2048]⟩
abbrev S2048 : Shape := ⟨1, ![2048]⟩
abbrev S512x1152 : Shape := ⟨2, ![512, 1152]⟩
abbrev S1 : Shape := ⟨1, ![1]⟩
abbrev S24576x2048 : Shape := ⟨2, ![24576, 2048]⟩
abbrev S2048x1 : Shape := ⟨2, ![2048, 1]⟩
abbrev S24576x1152 : Shape := ⟨2, ![24576, 1152]⟩
abbrev S24576x1 : Shape := ⟨2, ![24576, 1]⟩
abbrev S256x2048 : Shape := ⟨2, ![256, 2048]⟩
abbrev S256x1152 : Shape := ⟨2, ![256, 1152]⟩
abbrev S256x1 : Shape := ⟨2, ![256, 1]⟩
abbrev S8x768x256 : Shape := ⟨3, ![8, 768, 256]⟩
abbrev S2048x1152 : Shape := ⟨2, ![2048, 1152]⟩
abbrev S256x256 : Shape := ⟨2, ![256, 256]⟩
abbrev S1x256x256 : Shape := ⟨3, ![1, 256, 256]⟩
abbrev S32x1152 : Shape := ⟨2, ![32, 1152]⟩
abbrev S256 : Shape := ⟨1, ![256]⟩
abbrev S256x768 : Shape := ⟨2, ![256, 768]⟩
abbrev S1x768x256 : Shape := ⟨3, ![1, 768, 256]⟩
abbrev S768x256 : Shape := ⟨2, ![768, 256]⟩

abbrev nBuf : Space → Nat
  | .hbm => 9
  | .vmem => 14
  | .smem => 1
  | _ => 0

abbrev bufTy : (tb : Table) → Fin (tcTables nBuf tb) → BufTy
  | .hbm, ⟨0, _⟩ => ⟨S6x4096x2048, .bf16⟩
  | .hbm, ⟨1, _⟩ => ⟨S2048, .f32⟩
  | .hbm, ⟨2, _⟩ => ⟨S512x1152, .i8⟩
  | .hbm, ⟨3, _⟩ => ⟨S1, .f32⟩
  | .hbm, ⟨4, _⟩ => ⟨S24576x2048, .bf16⟩
  | .hbm, ⟨5, _⟩ => ⟨S2048x1, .f32⟩
  | .hbm, ⟨6, _⟩ => ⟨S24576x1152, .bf16⟩
  | .hbm, ⟨7, _⟩ => ⟨S24576x2048, .i8⟩
  | .hbm, ⟨8, _⟩ => ⟨S24576x1, .f32⟩
  | .local _ .vmem, ⟨0, _⟩ => ⟨S256x2048, .bf16⟩
  | .local _ .vmem, ⟨1, _⟩ => ⟨S256x2048, .bf16⟩
  | .local _ .vmem, ⟨2, _⟩ => ⟨S2048x1, .f32⟩
  | .local _ .vmem, ⟨3, _⟩ => ⟨S512x1152, .i8⟩
  | .local _ .vmem, ⟨4, _⟩ => ⟨S256x1152, .bf16⟩
  | .local _ .vmem, ⟨5, _⟩ => ⟨S256x1152, .bf16⟩
  | .local _ .vmem, ⟨6, _⟩ => ⟨S256x2048, .i8⟩
  | .local _ .vmem, ⟨7, _⟩ => ⟨S256x2048, .i8⟩
  | .local _ .vmem, ⟨8, _⟩ => ⟨S256x1, .f32⟩
  | .local _ .vmem, ⟨9, _⟩ => ⟨S256x1, .f32⟩
  | .local _ .vmem, ⟨10, _⟩ => ⟨S8x768x256, .bf16⟩
  | .local _ .vmem, ⟨11, _⟩ => ⟨S2048x1152, .bf16⟩
  | .local _ .vmem, ⟨12, _⟩ => ⟨S256x2048, .f32⟩
  | .local _ .vmem, ⟨13, _⟩ => ⟨S256x2048, .bf16⟩
  | .local _ .smem, ⟨0, _⟩ => ⟨S1, .f32⟩
  | _, _ => ⟨S6x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x4096x2048 : Shape := ⟨3, ![6, 4096, 2048]⟩
abbrev S2048 : Shape := ⟨1, ![2048]⟩
abbrev S512x1152 : Shape := ⟨2, ![512, 1152]⟩
abbrev S1 : Shape := ⟨1, ![1]⟩
abbrev S_ : Shape := ⟨0, ![]⟩
abbrev S6x4096 : Shape := ⟨2, ![6, 4096]⟩
abbrev S6x4096x1 : Shape := ⟨3, ![6, 4096, 1]⟩
abbrev S1x1x2048 : Shape := ⟨3, ![1, 1, 2048]⟩
abbrev S6x4096x1x2x1024 : Shape := ⟨5, ![6, 4096, 1, 2, 1024]⟩
abbrev S6x4096x1x1x1024 : Shape := ⟨5, ![6, 4096, 1, 1, 1024]⟩
abbrev S6x4096x1x1024 : Shape := ⟨4, ![6, 4096, 1, 1024]⟩
abbrev S6x4096x2x2x512 : Shape := ⟨5, ![6, 4096, 2, 2, 512]⟩
abbrev S6x4096x2x1x512 : Shape := ⟨5, ![6, 4096, 2, 1, 512]⟩
abbrev S6x4096x2x512 : Shape := ⟨4, ![6, 4096, 2, 512]⟩
abbrev S6x4096x4x2x256 : Shape := ⟨5, ![6, 4096, 4, 2, 256]⟩
abbrev S6x4096x4x1x256 : Shape := ⟨5, ![6, 4096, 4, 1, 256]⟩
abbrev S6x4096x4x256 : Shape := ⟨4, ![6, 4096, 4, 256]⟩
abbrev S6x4096x8x2x128 : Shape := ⟨5, ![6, 4096, 8, 2, 128]⟩
abbrev S6x4096x8x1x128 : Shape := ⟨5, ![6, 4096, 8, 1, 128]⟩
abbrev S6x4096x8x128 : Shape := ⟨4, ![6, 4096, 8, 128]⟩
abbrev S6x4096x16x2x64 : Shape := ⟨5, ![6, 4096, 16, 2, 64]⟩
abbrev S6x4096x16x1x64 : Shape := ⟨5, ![6, 4096, 16, 1, 64]⟩
abbrev S6x4096x16x64 : Shape := ⟨4, ![6, 4096, 16, 64]⟩
abbrev S6x4096x32x2x32 : Shape := ⟨5, ![6, 4096, 32, 2, 32]⟩
abbrev S6x4096x32x1x32 : Shape := ⟨5, ![6, 4096, 32, 1, 32]⟩
abbrev S6x4096x32x32 : Shape := ⟨4, ![6, 4096, 32, 32]⟩
abbrev S6x4096x64x2x16 : Shape := ⟨5, ![6, 4096, 64, 2, 16]⟩
abbrev S6x4096x64x1x16 : Shape := ⟨5, ![6, 4096, 64, 1, 16]⟩
abbrev S6x4096x64x16 : Shape := ⟨4, ![6, 4096, 64, 16]⟩
abbrev S6x4096x128x2x8 : Shape := ⟨5, ![6, 4096, 128, 2, 8]⟩
abbrev S6x4096x128x1x8 : Shape := ⟨5, ![6, 4096, 128, 1, 8]⟩
abbrev S6x4096x128x8 : Shape := ⟨4, ![6, 4096, 128, 8]⟩
abbrev S6x4096x256x2x4 : Shape := ⟨5, ![6, 4096, 256, 2, 4]⟩
abbrev S6x4096x256x1x4 : Shape := ⟨5, ![6, 4096, 256, 1, 4]⟩
abbrev S6x4096x256x4 : Shape := ⟨4, ![6, 4096, 256, 4]⟩
abbrev S6x4096x512x2x2 : Shape := ⟨5, ![6, 4096, 512, 2, 2]⟩
abbrev S6x4096x512x1x2 : Shape := ⟨5, ![6, 4096, 512, 1, 2]⟩
abbrev S6x4096x512x2 : Shape := ⟨4, ![6, 4096, 512, 2]⟩
abbrev S6x4096x1024x2x1 : Shape := ⟨5, ![6, 4096, 1024, 2, 1]⟩
abbrev S6x4096x1024x1x1 : Shape := ⟨5, ![6, 4096, 1024, 1, 1]⟩
abbrev S6x4096x1024x1 : Shape := ⟨4, ![6, 4096, 1024, 1]⟩
abbrev S6x4096x512 : Shape := ⟨3, ![6, 4096, 512]⟩
abbrev S6x4096x1152 : Shape := ⟨3, ![6, 4096, 1152]⟩
abbrev S24576x1152 : Shape := ⟨2, ![24576, 1152]⟩
abbrev S24576x2048 : Shape := ⟨2, ![24576, 2048]⟩
abbrev S24576x1 : Shape := ⟨2, ![24576, 1]⟩

abbrev nBuf : Space → Nat
  | .hbm => 245
  | .vmem => 0
  | .smem => 0
  | _ => 0

abbrev hbmTy0_0 (i : Nat) : BufTy := match i % 128 with
  | 0 => ⟨S6x4096x2048, .bf16⟩
  | 1 => ⟨S2048, .f32⟩
  | 2 => ⟨S512x1152, .i8⟩
  | 3 => ⟨S1, .f32⟩
  | 4 => ⟨S6x4096x2048, .f32⟩
  | 5 => ⟨S6x4096x2048, .f32⟩
  | 6 => ⟨S_, .f32⟩
  | 7 => ⟨S6x4096, .f32⟩
  | 8 => ⟨S6x4096x1, .f32⟩
  | 9 => ⟨S_, .f32⟩
  | 10 => ⟨S6x4096x1, .f32⟩
  | 11 => ⟨S6x4096x1, .f32⟩
  | 12 => ⟨S_, .f32⟩
  | 13 => ⟨S6x4096x1, .f32⟩
  | 14 => ⟨S6x4096x1, .f32⟩
  | 15 => ⟨S6x4096x1, .f32⟩
  | 16 => ⟨S6x4096x2048, .f32⟩
  | 17 => ⟨S6x4096x2048, .f32⟩
  | 18 => ⟨S1x1x2048, .f32⟩
  | 19 => ⟨S6x4096x2048, .f32⟩
  | 20 => ⟨S6x4096x2048, .f32⟩
  | 21 => ⟨S6x4096x1x2x1024, .f32⟩
  | 22 => ⟨S6x4096x1x1x1024, .f32⟩
  | 23 => ⟨S6x4096x1x1024, .f32⟩
  | 24 => ⟨S6x4096x1x1x1024, .f32⟩
  | 25 => ⟨S6x4096x1x1024, .f32⟩
  | 26 => ⟨S6x4096x1x1024, .f32⟩
  | 27 => ⟨S6x4096x1x1024, .f32⟩
  | 28 => ⟨S6x4096x1x1x1024, .f32⟩
  | 29 => ⟨S6x4096x1x1x1024, .f32⟩
  | 30 => ⟨S6x4096x1x2x1024, .f32⟩
  | 31 => ⟨S6x4096x2048, .f32⟩
  | 32 => ⟨S6x4096x2x2x512, .f32⟩
  | 33 => ⟨S6x4096x2x1x512, .f32⟩
  | 34 => ⟨S6x4096x2x512, .f32⟩
  | 35 => ⟨S6x4096x2x1x512, .f32⟩
  | 36 => ⟨S6x4096x2x512, .f32⟩
  | 37 => ⟨S6x4096x2x512, .f32⟩
  | 38 => ⟨S6x4096x2x512, .f32⟩
  | 39 => ⟨S6x4096x2x1x512, .f32⟩
  | 40 => ⟨S6x4096x2x1x512, .f32⟩
  | 41 => ⟨S6x4096x2x2x512, .f32⟩
  | 42 => ⟨S6x4096x2048, .f32⟩
  | 43 => ⟨S6x4096x4x2x256, .f32⟩
  | 44 => ⟨S6x4096x4x1x256, .f32⟩
  | 45 => ⟨S6x4096x4x256, .f32⟩
  | 46 => ⟨S6x4096x4x1x256, .f32⟩
  | 47 => ⟨S6x4096x4x256, .f32⟩
  | 48 => ⟨S6x4096x4x256, .f32⟩
  | 49 => ⟨S6x4096x4x256, .f32⟩
  | 50 => ⟨S6x4096x4x1x256, .f32⟩
  | 51 => ⟨S6x4096x4x1x256, .f32⟩
  | 52 => ⟨S6x4096x4x2x256, .f32⟩
  | 53 => ⟨S6x4096x2048, .f32⟩
  | 54 => ⟨S6x4096x8x2x128, .f32⟩
  | 55 => ⟨S6x4096x8x1x128, .f32⟩
  | 56 => ⟨S6x4096x8x128, .f32⟩
  | 57 => ⟨S6x4096x8x1x128, .f32⟩
  | 58 => ⟨S6x4096x8x128, .f32⟩
  | 59 => ⟨S6x4096x8x128, .f32⟩
  | 60 => ⟨S6x4096x8x128, .f32⟩
  | 61 => ⟨S6x4096x8x1x128, .f32⟩
  | 62 => ⟨S6x4096x8x1x128, .f32⟩
  | 63 => ⟨S6x4096x8x2x128, .f32⟩
  | 64 => ⟨S6x4096x2048, .f32⟩
  | 65 => ⟨S6x4096x16x2x64, .f32⟩
  | 66 => ⟨S6x4096x16x1x64, .f32⟩
  | 67 => ⟨S6x4096x16x64, .f32⟩
  | 68 => ⟨S6x4096x16x1x64, .f32⟩
  | 69 => ⟨S6x4096x16x64, .f32⟩
  | 70 => ⟨S6x4096x16x64, .f32⟩
  | 71 => ⟨S6x4096x16x64, .f32⟩
  | 72 => ⟨S6x4096x16x1x64, .f32⟩
  | 73 => ⟨S6x4096x16x1x64, .f32⟩
  | 74 => ⟨S6x4096x16x2x64, .f32⟩
  | 75 => ⟨S6x4096x2048, .f32⟩
  | 76 => ⟨S6x4096x32x2x32, .f32⟩
  | 77 => ⟨S6x4096x32x1x32, .f32⟩
  | 78 => ⟨S6x4096x32x32, .f32⟩
  | 79 => ⟨S6x4096x32x1x32, .f32⟩
  | 80 => ⟨S6x4096x32x32, .f32⟩
  | 81 => ⟨S6x4096x32x32, .f32⟩
  | 82 => ⟨S6x4096x32x32, .f32⟩
  | 83 => ⟨S6x4096x32x1x32, .f32⟩
  | 84 => ⟨S6x4096x32x1x32, .f32⟩
  | 85 => ⟨S6x4096x32x2x32, .f32⟩
  | 86 => ⟨S6x4096x2048, .f32⟩
  | 87 => ⟨S6x4096x64x2x16, .f32⟩
  | 88 => ⟨S6x4096x64x1x16, .f32⟩
  | 89 => ⟨S6x4096x64x16, .f32⟩
  | 90 => ⟨S6x4096x64x1x16, .f32⟩
  | 91 => ⟨S6x4096x64x16, .f32⟩
  | 92 => ⟨S6x4096x64x16, .f32⟩
  | 93 => ⟨S6x4096x64x16, .f32⟩
  | 94 => ⟨S6x4096x64x1x16, .f32⟩
  | 95 => ⟨S6x4096x64x1x16, .f32⟩
  | 96 => ⟨S6x4096x64x2x16, .f32⟩
  | 97 => ⟨S6x4096x2048, .f32⟩
  | 98 => ⟨S6x4096x128x2x8, .f32⟩
  | 99 => ⟨S6x4096x128x1x8, .f32⟩
  | 100 => ⟨S6x4096x128x8, .f32⟩
  | 101 => ⟨S6x4096x128x1x8, .f32⟩
  | 102 => ⟨S6x4096x128x8, .f32⟩
  | 103 => ⟨S6x4096x128x8, .f32⟩
  | 104 => ⟨S6x4096x128x8, .f32⟩
  | 105 => ⟨S6x4096x128x1x8, .f32⟩
  | 106 => ⟨S6x4096x128x1x8, .f32⟩
  | 107 => ⟨S6x4096x128x2x8, .f32⟩
  | 108 => ⟨S6x4096x2048, .f32⟩
  | 109 => ⟨S6x4096x256x2x4, .f32⟩
  | 110 => ⟨S6x4096x256x1x4, .f32⟩
  | 111 => ⟨S6x4096x256x4, .f32⟩
  | 112 => ⟨S6x4096x256x1x4, .f32⟩
  | 113 => ⟨S6x4096x256x4, .f32⟩
  | 114 => ⟨S6x4096x256x4, .f32⟩
  | 115 => ⟨S6x4096x256x4, .f32⟩
  | 116 => ⟨S6x4096x256x1x4, .f32⟩
  | 117 => ⟨S6x4096x256x1x4, .f32⟩
  | 118 => ⟨S6x4096x256x2x4, .f32⟩
  | 119 => ⟨S6x4096x2048, .f32⟩
  | 120 => ⟨S6x4096x512x2x2, .f32⟩
  | 121 => ⟨S6x4096x512x1x2, .f32⟩
  | 122 => ⟨S6x4096x512x2, .f32⟩
  | 123 => ⟨S6x4096x512x1x2, .f32⟩
  | 124 => ⟨S6x4096x512x2, .f32⟩
  | 125 => ⟨S6x4096x512x2, .f32⟩
  | 126 => ⟨S6x4096x512x2, .f32⟩
  | 127 => ⟨S6x4096x512x1x2, .f32⟩
  | _ => ⟨S6x4096x2048, .bf16⟩

abbrev hbmTy0_1 (i : Nat) : BufTy := match i % 128 with
  | 0 => ⟨S6x4096x512x1x2, .f32⟩
  | 1 => ⟨S6x4096x512x2x2, .f32⟩
  | 2 => ⟨S6x4096x2048, .f32⟩
  | 3 => ⟨S6x4096x1024x2x1, .f32⟩
  | 4 => ⟨S6x4096x1024x1x1, .f32⟩
  | 5 => ⟨S6x4096x1024x1, .f32⟩
  | 6 => ⟨S6x4096x1024x1x1, .f32⟩
  | 7 => ⟨S6x4096x1024x1, .f32⟩
  | 8 => ⟨S6x4096x1024x1, .f32⟩
  | 9 => ⟨S6x4096x1024x1, .f32⟩
  | 10 => ⟨S6x4096x1024x1x1, .f32⟩
  | 11 => ⟨S6x4096x1024x1x1, .f32⟩
  | 12 => ⟨S6x4096x1024x2x1, .f32⟩
  | 13 => ⟨S6x4096x2048, .f32⟩
  | 14 => ⟨S_, .f32⟩
  | 15 => ⟨S6x4096x2048, .f32⟩
  | 16 => ⟨S6x4096x2048, .f32⟩
  | 17 => ⟨S6x4096x2048, .f32⟩
  | 18 => ⟨S_, .f32⟩
  | 19 => ⟨S6x4096, .f32⟩
  | 20 => ⟨S_, .f32⟩
  | 21 => ⟨S6x4096, .f32⟩
  | 22 => ⟨S6x4096, .i1⟩
  | 23 => ⟨S_, .f32⟩
  | 24 => ⟨S6x4096, .f32⟩
  | 25 => ⟨S6x4096, .f32⟩
  | 26 => ⟨S_, .f32⟩
  | 27 => ⟨S_, .f32⟩
  | 28 => ⟨S6x4096, .f32⟩
  | 29 => ⟨S6x4096, .f32⟩
  | 30 => ⟨S6x4096x1, .f32⟩
  | 31 => ⟨S6x4096x2048, .f32⟩
  | 32 => ⟨S6x4096x2048, .f32⟩
  | 33 => ⟨S6x4096x2048, .f32⟩
  | 34 => ⟨S_, .f32⟩
  | 35 => ⟨S_, .f32⟩
  | 36 => ⟨S_, .f32⟩
  | 37 => ⟨S6x4096x2048, .f32⟩
  | 38 => ⟨S6x4096x2048, .f32⟩
  | 39 => ⟨S_, .f32⟩
  | 40 => ⟨S6x4096x2048, .f32⟩
  | 41 => ⟨S6x4096x2048, .f32⟩
  | 42 => ⟨S6x4096x2048, .i32⟩
  | 43 => ⟨S6x4096x2048, .i8⟩
  | 44 => ⟨S512x1152, .i32⟩
  | 45 => ⟨S_, .i32⟩
  | 46 => ⟨S512x1152, .i32⟩
  | 47 => ⟨S512x1152, .i32⟩
  | 48 => ⟨S_, .i32⟩
  | 49 => ⟨S512x1152, .i32⟩
  | 50 => ⟨S512x1152, .i32⟩
  | 51 => ⟨S_, .i32⟩
  | 52 => ⟨S512x1152, .i32⟩
  | 53 => ⟨S512x1152, .i32⟩
  | 54 => ⟨S512x1152, .bf16⟩
  | 55 => ⟨S6x4096x512, .i8⟩
  | 56 => ⟨S6x4096x512, .i32⟩
  | 57 => ⟨S6x4096x512, .bf16⟩
  | 58 => ⟨S6x4096x1152, .f32⟩
  | 59 => ⟨S512x1152, .i32⟩
  | 60 => ⟨S_, .i32⟩
  | 61 => ⟨S512x1152, .i32⟩
  | 62 => ⟨S512x1152, .i32⟩
  | 63 => ⟨S_, .i32⟩
  | 64 => ⟨S512x1152, .i32⟩
  | 65 => ⟨S512x1152, .i32⟩
  | 66 => ⟨S_, .i32⟩
  | 67 => ⟨S512x1152, .i32⟩
  | 68 => ⟨S512x1152, .i32⟩
  | 69 => ⟨S512x1152, .bf16⟩
  | 70 => ⟨S6x4096x512, .i8⟩
  | 71 => ⟨S6x4096x512, .i32⟩
  | 72 => ⟨S6x4096x512, .bf16⟩
  | 73 => ⟨S6x4096x1152, .f32⟩
  | 74 => ⟨S6x4096x1152, .f32⟩
  | 75 => ⟨S512x1152, .i32⟩
  | 76 => ⟨S_, .i32⟩
  | 77 => ⟨S512x1152, .i32⟩
  | 78 => ⟨S512x1152, .i32⟩
  | 79 => ⟨S_, .i32⟩
  | 80 => ⟨S512x1152, .i32⟩
  | 81 => ⟨S512x1152, .i32⟩
  | 82 => ⟨S_, .i32⟩
  | 83 => ⟨S512x1152, .i32⟩
  | 84 => ⟨S512x1152, .i32⟩
  | 85 => ⟨S512x1152, .bf16⟩
  | 86 => ⟨S6x4096x512, .i8⟩
  | 87 => ⟨S6x4096x512, .i32⟩
  | 88 => ⟨S6x4096x512, .bf16⟩
  | 89 => ⟨S6x4096x1152, .f32⟩
  | 90 => ⟨S6x4096x1152, .f32⟩
  | 91 => ⟨S512x1152, .i32⟩
  | 92 => ⟨S_, .i32⟩
  | 93 => ⟨S512x1152, .i32⟩
  | 94 => ⟨S512x1152, .i32⟩
  | 95 => ⟨S_, .i32⟩
  | 96 => ⟨S512x1152, .i32⟩
  | 97 => ⟨S512x1152, .i32⟩
  | 98 => ⟨S_, .i32⟩
  | 99 => ⟨S512x1152, .i32⟩
  | 100 => ⟨S512x1152, .i32⟩
  | 101 => ⟨S512x1152, .bf16⟩
  | 102 => ⟨S6x4096x512, .i8⟩
  | 103 => ⟨S6x4096x512, .i32⟩
  | 104 => ⟨S6x4096x512, .bf16⟩
  | 105 => ⟨S6x4096x1152, .f32⟩
  | 106 => ⟨S6x4096x1152, .f32⟩
  | 107 => ⟨S6x4096x1, .f32⟩
  | 108 => ⟨S6x4096x1152, .f32⟩
  | 109 => ⟨S6x4096x1152, .f32⟩
  | 110 => ⟨S_, .f32⟩
  | 111 => ⟨S6x4096x1152, .f32⟩
  | 112 => ⟨S6x4096x1152, .f32⟩
  | 113 => ⟨S6x4096x1152, .bf16⟩
  | 114 => ⟨S24576x1152, .bf16⟩
  | 115 => ⟨S24576x2048, .i8⟩
  | 116 => ⟨S24576x1, .f32⟩
  | _ => ⟨S6x4096x2048, .bf16⟩

abbrev hbmTy (i : Nat) : BufTy := match i / 128 with
  | 0 => hbmTy0_0 i
  | 1 => hbmTy0_1 i
  | _ => ⟨S6x4096x2048, .bf16⟩

abbrev bufTy : (tb : Table) → Fin (tcTables nBuf tb) → BufTy
  | .hbm, ⟨i, _⟩ => hbmTy i
  | _, _ => ⟨S6x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_cst_2 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_cst_3 : Ref sig .tc := ⟨.hbm, 146, rfl⟩
abbrev main_v138 : Ref sig .tc := ⟨.hbm, 147, rfl⟩
abbrev main_cst_4 : Ref sig .tc := ⟨.hbm, 148, rfl⟩
abbrev main_v139 : Ref sig .tc := ⟨.hbm, 149, rfl⟩
abbrev main_v140 : Ref sig .tc := ⟨.hbm, 150, rfl⟩
abbrev main_cst_5 : Ref sig .tc := ⟨.hbm, 151, rfl⟩
abbrev main_v141 : Ref sig .tc := ⟨.hbm, 152, rfl⟩
abbrev main_v142 : Ref sig .tc := ⟨.hbm, 153, rfl⟩
abbrev main_cst_6 : Ref sig .tc := ⟨.hbm, 154, rfl⟩
abbrev main_call0_v0 : Ref sig .tc := ⟨.hbm, 155, rfl⟩
abbrev main_call0_v1 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_cst_7 : Ref sig .tc := ⟨.hbm, 162, rfl⟩
abbrev main_cst_8 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_c : Ref sig .tc := ⟨.hbm, 173, rfl⟩
abbrev main_v152 : Ref sig .tc := ⟨.hbm, 174, rfl⟩
abbrev main_v153 : Ref sig .tc := ⟨.hbm, 175, rfl⟩
abbrev main_c_9 : Ref sig .tc := ⟨.hbm, 176, rfl⟩
abbrev main_v154 : Ref sig .tc := ⟨.hbm, 177, rfl⟩
abbrev main_v155 : Ref sig .tc := ⟨.hbm, 178, rfl⟩
abbrev main_c_10 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_c_11 : Ref sig .tc := ⟨.hbm, 188, rfl⟩
abbrev main_v164 : Ref sig .tc := ⟨.hbm, 189, rfl⟩
abbrev main_v165 : Ref sig .tc := ⟨.hbm, 190, rfl⟩
abbrev main_c_12 : Ref sig .tc := ⟨.hbm, 191, rfl⟩
abbrev main_v166 : Ref sig .tc := ⟨.hbm, 192, rfl⟩
abbrev main_v167 : Ref sig .tc := ⟨.hbm, 193, rfl⟩
abbrev main_c_13 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_c_14 : Ref sig .tc := ⟨.hbm, 204, rfl⟩
abbrev main_v177 : Ref sig .tc := ⟨.hbm, 205, rfl⟩
abbrev main_v178 : Ref sig .tc := ⟨.hbm, 206, rfl⟩
abbrev main_c_15 : Ref sig .tc := ⟨.hbm, 207, rfl⟩
abbrev main_v179 : Ref sig .tc := ⟨.hbm, 208, rfl⟩
abbrev main_v180 : Ref sig .tc := ⟨.hbm, 209, rfl⟩
abbrev main_c_16 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_c_17 : Ref sig .tc := ⟨.hbm, 220, rfl⟩
abbrev main_v190 : Ref sig .tc := ⟨.hbm, 221, rfl⟩
abbrev main_v191 : Ref sig .tc := ⟨.hbm, 222, rfl⟩
abbrev main_c_18 : Ref sig .tc := ⟨.hbm, 223, rfl⟩
abbrev main_v192 : Ref sig .tc := ⟨.hbm, 224, rfl⟩
abbrev main_v193 : Ref sig .tc := ⟨.hbm, 225, rfl⟩
abbrev main_c_19 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩

abbrev nD : Nat := 1
abbrev τ : Topo := Topo.v7x

variable {F : FTy → Type} [FloatOps F]
-- ==== Proof.Hadamard.lean ====
module

public import Idealize.ShloMosaic.Init
public import Mathlib.Data.EReal.Operations
public import Mathlib.Data.EReal.Inv
public import Mathlib.Algebra.BigOperators.Intervals

@[expose] public section

/-! # The Walsh-Hadamard transform: its butterflies, its sum with signs, and infinite entries

Rows are written as functions of a natural number; nothing here speaks of a program. -/

noncomputable section

namespace Cert.Had

/-- One butterfly stage of stride `m`: entries `m` apart become their sum and their difference. -/
def stage {α : Type} [Add α] [Sub α] (m : ℕ) (f : ℕ → α) (i : ℕ) : α :=
  if i / m % 2 = 0 then f i + f (i + m) else f (i - m) - f i

/-- The eleven stages of a row of 2048, strides 1024, 512, …, 1. -/
def fwht {α : Type} [Add α] [Sub α] (f : ℕ → α) : ℕ → α :=
  stage 1 (stage 2 (stage 4 (stage 8 (stage 16 (stage 32 (stage 64 (stage 128
    (stage 256 (stage 512 (stage 1024 f))))))))))

/-- Three stages, strides 4, 2, 1: the transform across the 8 groups of a row. -/
def high3 {α : Type} [Add α] [Sub α] (f : ℕ → α) : ℕ → α := stage 1 (stage 2 (stage 4 f))

/-- Whether the bits common to `t` and `v`, counted in the low `n` bits, are odd in number. -/
def sgb : ℕ → ℕ → ℕ → Bool
  | 0, _, _ => false
  | n + 1, t, v => xor (sgb n (t / 2) (v / 2)) (t % 2 == 1 && v % 2 == 1)

/-- The sign a truth value stands for: `-1` for true. -/
def sg (b : Bool) : ℝ := if b then -1 else 1

/-- The sign of an exclusive or is the product of the signs. -/
theorem sg_xor (a b : Bool) : sg (xor a b) = sg a * sg b := by cases a <;> cases b <;> simp [sg]

/-- The transform inside each group of 256, as one sum with signs. -/
def low8 (f : ℕ → ℝ) (i : ℕ) : ℝ := ∑ t ∈ Finset.range 256, sg (sgb 8 t (i % 256)) * f (256 * (i / 256) + t)

/-! ## Stages on reals, inside the extended reals -/

/-- A stage on reals, read in the extended reals. -/
theorem stage_coe (m : ℕ) (f : ℕ → ℝ) : stage m (fun i => ((f i : ℝ) : EReal)) = fun i => ((stage m f i : ℝ) : EReal) := by
  funext i; unfold stage; split <;> simp

/-- The transform on reals, read in the extended reals. -/
theorem fwht_coe (f : ℕ → ℝ) : fwht (fun i => ((f i : ℝ) : EReal)) = fun i => ((fwht f i : ℝ) : EReal) := by
  simp only [fwht, stage_coe]

/-- The upper three stages on reals, read in the extended reals. -/
theorem high3_coe (f : ℕ → ℝ) : high3 (fun i => ((f i : ℝ) : EReal)) = fun i => ((high3 f i : ℝ) : EReal) := by
  simp only [high3, stage_coe]

/-- A stage commutes with multiplication by a real. -/
theorem stage_smul (m : ℕ) (a : ℝ) (f : ℕ → ℝ) : stage m (fun i => a * f i) = fun i => a * stage m f i := by
  funext i; unfold stage; split <;> ring

/-- The transform commutes with multiplication by a real. -/
theorem fwht_smul (a : ℝ) (f : ℕ → ℝ) : fwht (fun i => a * f i) = fun i => a * fwht f i := by
  simp only [fwht, stage_smul]

/-- A stage depends on the entries of its whole blocks only. -/
theorem stage_congr {α : Type} [Add α] [Sub α] {m n : ℕ} (hm : 0 < m) (hn : 2 * m ∣ n) {f g : ℕ → α}
    (h : ∀ i, i < n → f i = g i) (i : ℕ) (hi : i < n) : stage m f i = stage m g i := by
  obtain ⟨q, rfl⟩ := hn
  unfold stage
  split
  · rename_i h0
    have h1 : i + m < 2 * m * q := by
      have e : i / m < 2 * q := by
        rw [Nat.div_lt_iff_lt_mul hm]; calc i < 2 * m * q := hi
          _ = 2 * q * m := by ring
      have e1 : i / m + 1 < 2 * q := by omega
      have e2 : (i + m) / m < 2 * q := by rw [Nat.add_div_right _ hm]; exact e1
      rw [Nat.div_lt_iff_lt_mul hm] at e2
      calc i + m < 2 * q * m := e2
        _ = 2 * m * q := by ring
    rw [h i hi, h _ h1]
  · rw [h i hi, h (i - m) (by omega)]

/-! ## Infinite entries -/

/-- An extended real that is not a real number. -/
def IsInf (x : EReal) : Prop := x = ⊤ ∨ x = ⊥

/-- A real is not infinite. -/
theorem not_isInf_coe (r : ℝ) : ¬ IsInf (r : EReal) := by simp [IsInf]

/-- What is not infinite is a real. -/
theorem exists_coe {x : EReal} (h : ¬ IsInf x) : ∃ r : ℝ, x = (r : EReal) := by
  induction x using EReal.rec with
  | bot => exact absurd (Or.inr rfl) h
  | coe r => exact ⟨r, rfl⟩
  | top => exact absurd (Or.inl rfl) h

/-- A sum with an infinite term is infinite. -/
theorem isInf_add {a b : EReal} (h : IsInf a ∨ IsInf b) : IsInf (a + b) := by
  induction a using EReal.rec <;> induction b using EReal.rec <;> simp_all [IsInf]

/-- A difference with an infinite term is infinite. -/
theorem isInf_sub {a b : EReal} (h : IsInf a ∨ IsInf b) : IsInf (a - b) := by
  induction a using EReal.rec <;> induction b using EReal.rec <;> simp_all [IsInf, sub_eq_add_neg]

/-- A sum with an infinite term is infinite. -/
theorem isInf_sum {ι : Type} [DecidableEq ι] (s : Finset ι) (f : ι → EReal) (k : ι) (hk : k ∈ s) (h : IsInf (f k)) :
    IsInf (∑ i ∈ s, f i) := by
  rw [← Finset.add_sum_erase s f hk]
  exact isInf_add (Or.inl h)

/-- A place in the lower half of a block of `2 m`, moved by `m`. -/
theorem add_mod_two_mul {m : ℕ} (hm : 0 < m) (i : ℕ) (h0 : i / m % 2 = 0) : (i + m) % (m * 2) = i % m + m := by
  rw [Nat.mod_mul, Nat.add_mod_right, Nat.add_div_right _ hm]
  rw [show (i / m).succ % 2 = 1 by omega, Nat.mul_one]

/-- If the entries congruent to `j` modulo `2 m` are all infinite, after the stage of stride `m` those congruent modulo `m` are. -/
theorem stage_inf {m n : ℕ} (hm : 0 < m) (hn : m * 2 ∣ n) (f : ℕ → EReal) (j : ℕ)
    (h : ∀ i, i < n → i % (m * 2) = j % (m * 2) → IsInf (f i)) :
    ∀ i, i < n → i % m = j % m → IsInf (stage m f i) := by
  obtain ⟨q, rfl⟩ := hn
  intro i hi hj
  have key : ∀ i, i / m % 2 = 0 → i < m * 2 * q → i % m = j % m → i + m < m * 2 * q ∧ (IsInf (f i) ∨ IsInf (f (i + m))) := by
    intro i h0 hi hj
    have h1 : i + m < m * 2 * q := by
      have e : i / m < 2 * q := by
        rw [Nat.div_lt_iff_lt_mul hm]; calc i < m * 2 * q := hi
          _ = 2 * q * m := by ring
      have e1 : i / m + 1 < 2 * q := by omega
      have e2 : (i + m) / m < 2 * q := by rw [Nat.add_div_right _ hm]; exact e1
      rw [Nat.div_lt_iff_lt_mul hm] at e2
      calc i + m < 2 * q * m := e2
        _ = m * 2 * q := by ring
    refine ⟨h1, ?_⟩
    by_cases hp : j / m % 2 = 0
    · left; apply h i hi
      rw [Nat.mod_mul, Nat.mod_mul, h0, hp, hj]
    · right; apply h _ h1
      rw [add_mod_two_mul hm i h0, Nat.mod_mul, show j / m % 2 = 1 by omega, hj, Nat.mul_one]
  unfold stage
  split
  · rename_i h0
    exact isInf_add (key i h0 hi hj).2
  · rename_i h0
    have hge : m ≤ i := by
      by_contra hlt
      rw [Nat.div_eq_of_lt (by omega)] at h0; simp at h0
    obtain ⟨k, rfl⟩ := Nat.exists_eq_add_of_le' hge
    rw [Nat.add_div_right _ hm] at h0
    rw [Nat.add_mod_right] at hj
    rw [Nat.add_sub_cancel]
    exact isInf_sub (key k (by omega) (by omega) hj).2

/-- One infinite entry among the 2048 makes every output of the transform infinite. -/
theorem fwht_inf (f : ℕ → EReal) (j : ℕ) (hj : j < 2048) (h : IsInf (f j)) (i : ℕ) (hi : i < 2048) : IsInf (fwht f i) := by
  unfold fwht
  have s (m : ℕ) (hm : 0 < m) (hn : m * 2 ∣ 2048) (f : ℕ → EReal) := stage_inf hm hn f j
  refine s 1 (by decide) (by decide) _ ?_ i hi (by omega)
  refine s 2 (by decide) (by decide) _ ?_
  refine s 4 (by decide) (by decide) _ ?_
  refine s 8 (by decide) (by decide) _ ?_
  refine s 16 (by decide) (by decide) _ ?_
  refine s 32 (by decide) (by decide) _ ?_
  refine s 64 (by decide) (by decide) _ ?_
  refine s 128 (by decide) (by decide) _ ?_
  refine s 256 (by decide) (by decide) _ ?_
  refine s 512 (by decide) (by decide) _ ?_
  refine s 1024 (by decide) (by decide) _ ?_
  intro i hi he
  rw [show i = j by omega]; exact h

/-- One infinite entry among the 8 makes every output of the three stages infinite. -/
theorem high3_inf (f : ℕ → EReal) (j : ℕ) (hj : j < 8) (h : IsInf (f j)) (i : ℕ) (hi : i < 8) : IsInf (high3 f i) := by
  unfold high3
  have s (m : ℕ) (hm : 0 < m) (hn : m * 2 ∣ 8) (f : ℕ → EReal) := stage_inf hm hn f j
  refine s 1 (by decide) (by decide) _ ?_ i hi (by omega)
  refine s 2 (by decide) (by decide) _ ?_
  refine s 4 (by decide) (by decide) _ ?_
  intro i hi he
  rw [show i = j by omega]; exact h

/-! ## The stages inside a group are the sum with signs -/

/-- The transform inside each group of 256 after the stages of strides 128, …, `M`: a sum over the `N = 256 / M` entries
    congruent modulo `M`. -/
def part (n M N : ℕ) (f : ℕ → ℝ) (i : ℕ) : ℝ :=
  ∑ t ∈ Finset.range N, sg (sgb n t (i % 256 / M)) * f (256 * (i / 256) + t * M + i % M)

/-- A sum over `2 N` places, by even and odd places. -/
theorem sum_range_two_mul (g : ℕ → ℝ) (N : ℕ) :
    ∑ t ∈ Finset.range (2 * N), g t = ∑ t ∈ Finset.range N, (g (2 * t) + g (2 * t + 1)) := by
  induction N with
  | zero => simp
  | succ N ih => rw [Nat.mul_succ, Finset.sum_range_succ, Finset.sum_range_succ, ih, Finset.sum_range_succ]; ring

/-- The parity for an even place. -/
theorem sgb_even (n t v : ℕ) : sgb (n + 1) (2 * t) v = sgb n t (v / 2) := by
  simp only [sgb]; rw [show 2 * t / 2 = t by omega, show 2 * t % 2 = 0 by omega]; simp

/-- The parity for an odd place. -/
theorem sgb_odd (n t v : ℕ) : sgb (n + 1) (2 * t + 1) v = xor (sgb n t (v / 2)) (v % 2 == 1) := by
  simp only [sgb]; rw [show (2 * t + 1) / 2 = t by omega, show (2 * t + 1) % 2 = 1 by omega]; simp

/-- The index arithmetic of a pair `i`, `i + M` of one stage. -/
theorem pair_facts {M N i : ℕ} (hM : 0 < M) (hMN : 2 * M * N = 256) (h0 : i / M % 2 = 0) :
    (i + M) / 256 = i / 256 ∧ (i + M) % 256 / (2 * M) = i % 256 / (2 * M) ∧ (i + M) % (2 * M) = i % M + M
    ∧ i % (2 * M) = i % M ∧ i % 256 / M / 2 = i % 256 / (2 * M) ∧ (i + M) % 256 / M / 2 = i % 256 / (2 * M)
    ∧ i % 256 / M % 2 = 0 ∧ (i + M) % 256 / M % 2 = 1 := by
  have hd : (i + M) / (2 * M) = i / (2 * M) := by
    rw [Nat.mul_comm 2 M, ← Nat.div_div_eq_div_mul, ← Nat.div_div_eq_div_mul, Nat.add_div_right _ hM]
    omega
  have hdiv : ∀ k : ℕ, k / 256 = k / (2 * M) / N := fun k => by rw [Nat.div_div_eq_div_mul, hMN]
  have hmd : ∀ k : ℕ, k % 256 / (2 * M) = k / (2 * M) % N := fun k => by
    rw [← hMN, Nat.mod_mul_right_div_self]
  have hmd' : ∀ k : ℕ, k % 256 / M = k / M % (2 * N) := fun k => by
    rw [← hMN, show 2 * M * N = M * (2 * N) by ring, Nat.mod_mul_right_div_self]
  have hhalf : ∀ k : ℕ, k % 256 / M / 2 = k % 256 / (2 * M) := fun k => by
    rw [Nat.div_div_eq_div_mul, Nat.mul_comm M 2]
  refine ⟨by rw [hdiv, hdiv, hd], by rw [hmd, hmd, hd], ?_, ?_, hhalf i, ?_, ?_, ?_⟩
  · rw [Nat.mul_comm 2 M]; exact add_mod_two_mul hM i h0
  · rw [Nat.mul_comm 2 M, Nat.mod_mul, h0]; simp
  · rw [hhalf, hmd, hmd, hd]
  · rw [hmd', Nat.mod_mod_of_dvd _ (Dvd.intro _ rfl), h0]
  · rw [hmd', Nat.mod_mod_of_dvd _ (Dvd.intro _ rfl), Nat.add_div_right _ hM]; omega

/-- One more stage: the sum over the entries congruent modulo `2 M` becomes the sum over those congruent modulo `M`. -/
theorem stage_part (n M N : ℕ) (hM : 0 < M) (hMN : 2 * M * N = 256) (f : ℕ → ℝ) :
    stage M (part n (2 * M) N f) = part (n + 1) M (2 * N) f := by
  have key : ∀ i, i / M % 2 = 0 →
      part n (2 * M) N f i + part n (2 * M) N f (i + M) = part (n + 1) M (2 * N) f i
      ∧ part n (2 * M) N f i - part n (2 * M) N f (i + M) = part (n + 1) M (2 * N) f (i + M) := by
    intro i h0
    obtain ⟨e1, e2, e3, e4, e5, e6, e7, e8⟩ := pair_facts hM hMN h0
    unfold part
    rw [sum_range_two_mul, sum_range_two_mul, ← Finset.sum_add_distrib, ← Finset.sum_sub_distrib]
    rw [e1, e2, e3, e4, Nat.add_mod_right]
    constructor
    · apply Finset.sum_congr rfl; intro t _
      rw [sgb_even, sgb_odd, e5, e7]
      rw [show 256 * (i / 256) + 2 * t * M + i % M = 256 * (i / 256) + t * (2 * M) + i % M by ring,
        show 256 * (i / 256) + (2 * t + 1) * M + i % M = 256 * (i / 256) + t * (2 * M) + (i % M + M) by ring]
      simp
    · apply Finset.sum_congr rfl; intro t _
      rw [sgb_even, sgb_odd, e6, e8, sg_xor]
      rw [show 256 * (i / 256) + 2 * t * M + i % M = 256 * (i / 256) + t * (2 * M) + i % M by ring,
        show 256 * (i / 256) + (2 * t + 1) * M + i % M = 256 * (i / 256) + t * (2 * M) + (i % M + M) by ring]
      simp only [sg, BEq.rfl, if_true]; ring
  funext i
  unfold stage
  split
  · rename_i h0; exact (key i h0).1
  · rename_i h0
    have hge : M ≤ i := by
      by_contra hlt
      rw [Nat.div_eq_of_lt (by omega)] at h0; simp at h0
    obtain ⟨k, rfl⟩ := Nat.exists_eq_add_of_le' hge
    rw [Nat.add_div_right _ hM] at h0
    rw [Nat.add_sub_cancel]
    exact (key k (by omega)).2

/-- The eight stages inside a group are the sum with signs. -/
theorem low_stages (f : ℕ → ℝ) :
    stage 1 (stage 2 (stage 4 (stage 8 (stage 16 (stage 32 (stage 64 (stage 128 f))))))) = low8 f := by
  have h0 : f = part 0 (2 * 128) 1 f := by
    funext i
    simp only [part, Finset.sum_range_one, sgb, sg]
    rw [show 256 * (i / 256) + 0 * (2 * 128) + i % (2 * 128) = i by omega]; simp
  have h8 : low8 f = part 8 1 (2 * 128) f := by
    funext i
    simp only [part, low8, Nat.div_one, Nat.mod_one, Nat.mul_one, Nat.add_zero]
  rw [h8]
  conv_lhs => rw [h0]
  rw [stage_part 0 128 1 (by decide) (by decide), show (128 : ℕ) = 2 * 64 from rfl,
    stage_part 1 64 (2 * 1) (by decide) (by decide), show (64 : ℕ) = 2 * 32 from rfl,
    stage_part 2 32 _ (by decide) (by decide), show (32 : ℕ) = 2 * 16 from rfl,
    stage_part 3 16 _ (by decide) (by decide), show (16 : ℕ) = 2 * 8 from rfl,
    stage_part 4 8 _ (by decide) (by decide), show (8 : ℕ) = 2 * 4 from rfl,
    stage_part 5 4 _ (by decide) (by decide), show (4 : ℕ) = 2 * 2 from rfl,
    stage_part 6 2 _ (by decide) (by decide)]
  exact stage_part 7 1 128 (by decide) (by decide) f

/-- A stage across groups commutes with the sum inside the groups. -/
theorem low8_stage (m : ℕ) (hm : 0 < m) (f : ℕ → ℝ) : low8 (stage (256 * m) f) = stage (256 * m) (low8 f) := by
  funext i
  have hdiv : ∀ t, t < 256 → (256 * (i / 256) + t) / (256 * m) = i / (256 * m) := fun t ht => by
    rw [← Nat.div_div_eq_div_mul, ← Nat.div_div_eq_div_mul, show (256 * (i / 256) + t) / 256 = i / 256 by omega]
  unfold low8
  by_cases h0 : i / (256 * m) % 2 = 0
  · simp only [stage, if_pos h0]
    rw [show (i + 256 * m) % 256 = i % 256 by omega, show (i + 256 * m) / 256 = i / 256 + m by omega, ← Finset.sum_add_distrib]
    apply Finset.sum_congr rfl; intro t ht
    rw [hdiv t (Finset.mem_range.mp ht), if_pos h0,
      show 256 * (i / 256 + m) + t = 256 * (i / 256) + t + 256 * m by ring]
    ring
  · simp only [stage, if_neg h0]
    have hge : 256 * m ≤ i := by
      by_contra hlt
      rw [Nat.div_eq_of_lt (by omega)] at h0; simp at h0
    rw [show (i - 256 * m) % 256 = i % 256 by omega, show (i - 256 * m) / 256 = i / 256 - m by omega, ← Finset.sum_sub_distrib]
    apply Finset.sum_congr rfl; intro t ht
    rw [hdiv t (Finset.mem_range.mp ht), if_neg h0,
      show 256 * (i / 256 - m) + t = 256 * (i / 256) + t - 256 * m by omega]
    ring

/-- A stage across groups, read group by group. -/
theorem stage_group {α : Type} [Add α] [Sub α] (m : ℕ) (f : ℕ → α) (b : ℕ) (hb : b < 256) :
    (fun g => stage (256 * m) f (256 * g + b)) = stage m (fun g => f (256 * g + b)) := by
  funext g
  unfold stage
  rw [← Nat.div_div_eq_div_mul, show (256 * g + b) / 256 = g by omega]
  by_cases h0 : g / m % 2 = 0
  · rw [if_pos h0, if_pos h0, show 256 * g + b + 256 * m = 256 * (g + m) + b by ring]
  · have hge : m ≤ g := by
      by_contra hlt
      rw [Nat.div_eq_of_lt (by omega)] at h0; simp at h0
    rw [if_neg h0, if_neg h0, show 256 * g + b - 256 * m = 256 * (g - m) + b by omega]

/-- The whole transform of a real row: the sums inside the groups first, then the three stages across the groups. -/
theorem fwht_eq (f : ℕ → ℝ) (g b : ℕ) (hb : b < 256) :
    fwht f (256 * g + b) = high3 (fun g => low8 f (256 * g + b)) g := by
  have e : fwht f = stage 256 (stage 512 (stage 1024 (low8 f))) := by
    unfold fwht
    rw [low_stages]
    have s1 := fun f => low8_stage 1 (by decide) f
    have s2 := fun f => low8_stage 2 (by decide) f
    have s4 := fun f => low8_stage 4 (by decide) f
    norm_num only at s1 s2 s4
    rw [s1, s2, s4]
  rw [e]
  have g1 := fun f : ℕ → ℝ => stage_group 1 f b hb
  have g2 := fun f : ℕ → ℝ => stage_group 2 f b hb
  have g4 := fun f : ℕ → ℝ => stage_group 4 f b hb
  norm_num only at g1 g2 g4
  unfold high3
  rw [← g4, ← g2, ← g1]

end Cert.Had

end
-- ==== Proof.Rows.lean ====
module

public import proofs.«01_k».proof.Proof.Hadamard
public import Idealize.ShloMosaic.Lib.IdealHost

@[expose] public section

/-! # One row of the layer: what the kernel computes of it and what the reference computes of it agree

A row is a function of a natural number below 2048, its gains another. `…K` is the kernel's formula, `…R` the reference's. -/

noncomputable section

namespace Cert.Rows

open Idealize.ShloMosaic Cert.Had

/-! ## The formulas -/

/-- The absolute value. -/
def ab (x : EReal) : EReal := max x (-x)
/-- Rounding to the nearest integer, ties to even. -/
def rnd (x : EReal) : EReal := Ideal.liftRound Ideal.roundHalfEven x
/-- Clipping to `[-7, 7]`. -/
def clip (x : EReal) : EReal := min ((7 : ℝ) : EReal) (max ((-7 : ℝ) : EReal) x)
/-- The scale a row's largest magnitude gives: a seventh of it, or 1 for a zero row. -/
def scaleOf (a : EReal) : EReal := if a = 0 then ((1 : ℝ) : EReal) else Ideal.div a ((7 : ℝ) : EReal)
/-- A row's sum of squares. -/
def sumsq (x : ℕ → EReal) : EReal := ∑ j ∈ Finset.range 2048, x j * x j
/-- The largest entry of a row. -/
def rowMax (f : ℕ → EReal) : EReal := (Finset.range 2048).sup f

/-- The three limbs of a gain: itself, what is left after rounding it, and what is left then (rounding is exact here). -/
def limb : ℕ → EReal → EReal
  | 0, g => g
  | 1, g => g - g
  | _, g => (g - g) - (g - g)

/-- The prepared matrix entry: limb `k / 256` of the gain, with the sign of row `k % 256` and column `b`. -/
def hadE (gn : ℕ → EReal) (g k b : ℕ) : EReal :=
  limb (k / 256) (gn (256 * g + k % 256)) * ((sg (sgb 8 (k % 256) b) : ℝ) : EReal)

/-- One group's product with its prepared matrix. -/
def dotK (x gn : ℕ → EReal) (b g : ℕ) : EReal := ∑ k ∈ Finset.range 768, x (256 * g + k % 256) * hadE gn g k b

/-- The kernel's transform of the row. -/
def hK (x gn : ℕ → EReal) (o : ℕ) : EReal := high3 (dotK x gn (o % 256)) (o / 256)
/-- The kernel's factor left out of the transform: the row's reciprocal norm times the transform's constant. -/
def rcK (eps c : ℝ) (x : ℕ → EReal) : EReal := Ideal.rsqrt (sumsq x * ((1 / 2048 : ℝ) : EReal) + (eps : EReal)) * (c : EReal)
/-- The kernel's scale. -/
def scaleK (eps c : ℝ) (x gn : ℕ → EReal) : EReal := scaleOf (rowMax (fun o => ab (hK x gn o)) * rcK eps c x)
/-- The kernel's code, as a number. -/
def codeK (eps c : ℝ) (x gn : ℕ → EReal) (o : ℕ) : EReal := clip (rnd (hK x gn o * Ideal.div (rcK eps c x) (scaleK eps c x gn)))

/-- The reference's reciprocal norm. -/
def rR (eps : ℝ) (x : ℕ → EReal) : EReal := Ideal.rsqrt (Ideal.div (sumsq x) ((2048 : ℝ) : EReal) + (eps : EReal))
/-- The reference's normalised entry. -/
def nR (eps : ℝ) (x gn : ℕ → EReal) (j : ℕ) : EReal := x j * rR eps x * gn j
/-- The reference's transform of the row. -/
def hR (eps c : ℝ) (x gn : ℕ → EReal) (o : ℕ) : EReal := fwht (nR eps x gn) o * (c : EReal)
/-- The reference's scale. -/
def scaleR (eps c : ℝ) (x gn : ℕ → EReal) : EReal := scaleOf (rowMax (fun o => ab (hR eps c x gn o)))
/-- The reference's code, as a number. -/
def codeR (eps c : ℝ) (x gn : ℕ → EReal) (o : ℕ) : EReal := clip (rnd (Ideal.div (hR eps c x gn o) (scaleR eps c x gn)))

/-- A sum of reals, read in the extended reals. -/
theorem coe_sum' (s : Finset ℕ) (f : ℕ → ℝ) : ((∑ j ∈ s, f j : ℝ) : EReal) = ∑ j ∈ s, (f j : EReal) := by
  induction s using Finset.induction_on with
  | empty => simp
  | insert a s ha ih => rw [Finset.sum_insert ha, Finset.sum_insert ha, EReal.coe_add, ih]

/-- A maximum of reals, read in the extended reals. -/
theorem coe_max' (a b : ℝ) : ((max a b : ℝ) : EReal) = max (a : EReal) (b : EReal) := EReal.coe_strictMono.monotone.map_max
/-- A minimum of reals, read in the extended reals. -/
theorem coe_min' (a b : ℝ) : ((min a b : ℝ) : EReal) = min (a : EReal) (b : EReal) := EReal.coe_strictMono.monotone.map_min

/-! ## The reciprocal norm -/

/-- Division by a real other than 0 is multiplication by its inverse. -/
theorem div_coe (x : EReal) {r : ℝ} (hr : r ≠ 0) : Ideal.div x (r : EReal) = x * ((r⁻¹ : ℝ) : EReal) := by
  unfold Ideal.div
  rw [if_neg (by exact_mod_cast hr), EReal.coe_inv]

/-- The kernel's row factor is the reference's reciprocal norm times the constant. -/
theorem rcK_eq (eps c : ℝ) (x : ℕ → EReal) : rcK eps c x = rR eps x * (c : EReal) := by
  unfold rcK rR
  rw [div_coe _ (by norm_num), one_div]

/-- A square is not negative. -/
theorem mul_self_nonneg' (a : EReal) : 0 ≤ a * a := by
  induction a using EReal.rec with
  | bot => simp
  | coe r => exact_mod_cast mul_self_nonneg r
  | top => simp

/-- A row with an infinite entry has reciprocal norm 0. -/
theorem rR_of_inf (eps : ℝ) (x : ℕ → EReal) (j : ℕ) (hj : j < 2048) (h : IsInf (x j)) : rR eps x = 0 := by
  have hs : sumsq x = ⊤ := by
    refine top_le_iff.mp ?_
    have e : x j * x j = ⊤ := by rcases h with h | h <;> rw [h] <;> simp
    rw [← e]
    exact Finset.single_le_sum (f := fun j => x j * x j) (fun i _ => mul_self_nonneg' _) (Finset.mem_range.mpr hj)
  unfold rR
  rw [hs, div_coe _ (by norm_num), EReal.top_mul_coe_of_pos (by norm_num), EReal.top_add_coe]
  rfl

/-- A row of real numbers has a positive real reciprocal norm. -/
theorem rR_of_fin (eps : ℝ) (heps : 0 < eps) (x : ℕ → EReal) (y : ℕ → ℝ) (h : ∀ j, j < 2048 → x j = (y j : EReal)) :
    ∃ ρ : ℝ, 0 < ρ ∧ rR eps x = (ρ : EReal) := by
  have hs : sumsq x = ((∑ j ∈ Finset.range 2048, y j * y j : ℝ) : EReal) := by
    unfold sumsq
    rw [coe_sum']
    refine Finset.sum_congr rfl fun j hj => ?_
    rw [h j (Finset.mem_range.mp hj), EReal.coe_mul]
  have h0 : 0 ≤ ∑ j ∈ Finset.range 2048, y j * y j := Finset.sum_nonneg fun j _ => mul_self_nonneg _
  unfold rR
  rw [hs, div_coe _ (by norm_num), ← EReal.coe_mul, ← EReal.coe_add]
  have hp : 0 < (∑ j ∈ Finset.range 2048, y j * y j) * (2048 : ℝ)⁻¹ + eps := by positivity
  refine ⟨(Real.sqrt ((∑ j ∈ Finset.range 2048, y j * y j) * (2048 : ℝ)⁻¹ + eps))⁻¹, by positivity, ?_⟩
  rw [Ideal.rsqrt_coe, if_neg (not_lt.mpr hp.le), if_neg hp.ne']

/-! ## The two transforms -/

/-- The transform depends only on the first 2048 entries. -/
theorem fwht_congr {f g : ℕ → EReal} (h : ∀ i, i < 2048 → f i = g i) (i : ℕ) (hi : i < 2048) : fwht f i = fwht g i := by
  unfold fwht
  have s (m : ℕ) (hm : 0 < m) (hn : 2 * m ∣ 2048) (f g : ℕ → EReal) (h : ∀ i, i < 2048 → f i = g i) :=
    stage_congr hm hn h
  exact s 1 (by decide) (by decide) _ _ (s 2 (by decide) (by decide) _ _ (s 4 (by decide) (by decide) _ _
    (s 8 (by decide) (by decide) _ _ (s 16 (by decide) (by decide) _ _ (s 32 (by decide) (by decide) _ _
    (s 64 (by decide) (by decide) _ _ (s 128 (by decide) (by decide) _ _ (s 256 (by decide) (by decide) _ _
    (s 512 (by decide) (by decide) _ _ (s 1024 (by decide) (by decide) _ _ h)))))))))) i hi

/-- The upper three stages depend only on the first 8 entries. -/
theorem high3_congr {f g : ℕ → EReal} (h : ∀ i, i < 8 → f i = g i) (i : ℕ) (hi : i < 8) : high3 f i = high3 g i := by
  unfold high3
  have s (m : ℕ) (hm : 0 < m) (hn : 2 * m ∣ 8) (f g : ℕ → EReal) (h : ∀ i, i < 8 → f i = g i) := stage_congr hm hn h
  exact s 1 (by decide) (by decide) _ _ (s 2 (by decide) (by decide) _ _ (s 4 (by decide) (by decide) _ _ h)) i hi

/-- If a real entry times its gain is the real `p`, its product with a prepared matrix entry is `±p` for the first limb, 0 for the others. -/
theorem term_fin (x gn : EReal) (y p s : ℝ) (hx : x = (y : EReal)) (hp : x * gn = (p : EReal)) (l : ℕ) :
    x * (limb l gn * (s : EReal)) = if l = 0 then ((s * p : ℝ) : EReal) else 0 := by
  induction gn using EReal.rec with
  | coe γ =>
    subst hx
    have hyp : y * γ = p := by exact_mod_cast hp
    have z : ((γ : ℝ) : EReal) - (γ : EReal) = 0 := by rw [← EReal.coe_sub]; simp
    match l with
    | 0 => simp only [limb, if_true]; rw [← EReal.coe_mul, ← EReal.coe_mul, ← hyp]; congr 1; ring
    | 1 => simp [limb, z]
    | (n + 2) => simp [limb, z]
  | top =>
    have hy : y = 0 := by
      by_contra hne
      subst hx
      rcases lt_or_gt_of_ne hne with hlt | hgt
      · rw [EReal.coe_mul_top_of_neg hlt] at hp; simp at hp
      · rw [EReal.coe_mul_top_of_pos hgt] at hp; simp at hp
    subst hx; subst hy
    have hp0 : p = 0 := by
      rw [EReal.coe_zero, zero_mul] at hp
      exact_mod_cast hp.symm
    subst hp0; simp
  | bot =>
    have hy : y = 0 := by
      by_contra hne
      subst hx
      rcases lt_or_gt_of_ne hne with hlt | hgt
      · rw [EReal.coe_mul_bot_of_neg hlt] at hp; simp at hp
      · rw [EReal.coe_mul_bot_of_pos hgt] at hp; simp at hp
    subst hx; subst hy
    have hp0 : p = 0 := by
      rw [EReal.coe_zero, zero_mul] at hp
      exact_mod_cast hp.symm
    subst hp0; simp

/-- The products in a row whose entries times gains are real. -/
theorem dotK_fin (x gn : ℕ → EReal) (y p : ℕ → ℝ) (hx : ∀ j, j < 2048 → x j = (y j : EReal))
    (hp : ∀ j, j < 2048 → x j * gn j = (p j : EReal)) (b g : ℕ) (hb : b < 256) (hg : g < 8) :
    dotK x gn b g = ((low8 p (256 * g + b) : ℝ) : EReal) := by
  have e : ∀ k ∈ Finset.range 768, x (256 * g + k % 256) * hadE gn g k b
      = if k / 256 = 0 then ((sg (sgb 8 (k % 256) b) * p (256 * g + k % 256) : ℝ) : EReal) else 0 := by
    intro k _
    have hj : 256 * g + k % 256 < 2048 := by omega
    exact term_fin _ _ _ _ _ (hx _ hj) (hp _ hj) _
  unfold dotK
  rw [Finset.sum_congr rfl e]
  rw [← Finset.sum_subset (s₁ := Finset.range 256) (by intro a; simp only [Finset.mem_range]; omega)
    (by
      intro k _ hk
      rw [if_neg]
      simp only [Finset.mem_range] at hk; omega)]
  unfold low8
  rw [coe_sum']
  refine Finset.sum_congr rfl fun k hk => ?_
  have hk' := Finset.mem_range.mp hk
  rw [if_pos (by omega), show (256 * g + b) % 256 = b by omega, show (256 * g + b) / 256 = g by omega, Nat.mod_eq_of_lt hk']

/-- If the row and every product with a gain are finite, the kernel's transform is the transform of the products. -/
theorem hK_fin (x gn : ℕ → EReal) (y p : ℕ → ℝ) (hx : ∀ j, j < 2048 → x j = (y j : EReal))
    (hp : ∀ j, j < 2048 → x j * gn j = (p j : EReal)) (o : ℕ) (ho : o < 2048) : hK x gn o = ((fwht p o : ℝ) : EReal) := by
  have hb : o % 256 < 256 := Nat.mod_lt _ (by decide)
  unfold hK
  rw [high3_congr (g := fun g => ((low8 p (256 * g + o % 256) : ℝ) : EReal))
    (fun g hg => dotK_fin x gn y p hx hp _ g hb hg) _ (by omega)]
  have e := congrFun (high3_coe (fun g => low8 p (256 * g + o % 256))) (o / 256)
  rw [e, ← fwht_eq p (o / 256) (o % 256) hb, show 256 * (o / 256) + o % 256 = o by omega]

/-- If every product with a gain is finite, the reference's transform is the transform of the products times the row's factor. -/
theorem hR_fin (eps c ρ : ℝ) (x gn : ℕ → EReal) (p : ℕ → ℝ) (hρ : rR eps x = (ρ : EReal))
    (hp : ∀ j, j < 2048 → x j * gn j = (p j : EReal)) (o : ℕ) (ho : o < 2048) :
    hR eps c x gn o = ((fwht p o * (ρ * c) : ℝ) : EReal) := by
  unfold hR
  have e : ∀ j, j < 2048 → nR eps x gn j = ((ρ * p j : ℝ) : EReal) := by
    intro j hj
    unfold nR
    rw [hρ, EReal.coe_mul, ← hp j hj, mul_comm (x j), mul_assoc]
  rw [fwht_congr e o ho]
  have e2 := congrFun (fwht_coe (fun j => ρ * p j)) o
  rw [e2, fwht_smul, ← EReal.coe_mul]
  congr 1; ring

/-- An infinite number times a real other than 0 is infinite. -/
theorem isInf_mul_coe {x : EReal} (h : IsInf x) {r : ℝ} (hr : r ≠ 0) : IsInf (x * (r : EReal)) := by
  rcases h with h | h <;> subst h <;> rcases lt_or_gt_of_ne hr with hlt | hgt
  · exact Or.inr (EReal.top_mul_coe_of_neg hlt)
  · exact Or.inl (EReal.top_mul_coe_of_pos hgt)
  · exact Or.inl (EReal.bot_mul_coe_of_neg hlt)
  · exact Or.inr (EReal.bot_mul_coe_of_pos hgt)

/-- A sign is not 0. -/
theorem sg_ne_zero (b : Bool) : sg b ≠ 0 := by cases b <;> simp [sg]

/-- If a product with a gain is infinite, the kernel's transform is infinite everywhere. -/
theorem hK_inf (x gn : ℕ → EReal) (j : ℕ) (hj : j < 2048) (h : IsInf (x j * gn j)) (o : ℕ) (ho : o < 2048) :
    IsInf (hK x gn o) := by
  refine high3_inf _ (j / 256) (by omega) ?_ _ (by omega)
  refine isInf_sum _ _ (j % 256) (Finset.mem_range.mpr (by omega)) ?_
  unfold hadE
  rw [show j % 256 / 256 = 0 by omega, Nat.mod_mod, show 256 * (j / 256) + j % 256 = j by omega, ← mul_assoc]
  exact isInf_mul_coe h (sg_ne_zero _)

/-- If a product with a gain is infinite, the reference's transform is infinite everywhere. -/
theorem hR_inf (eps c ρ : ℝ) (x gn : ℕ → EReal) (hρ0 : ρ ≠ 0) (hc : c ≠ 0) (hρ : rR eps x = (ρ : EReal)) (j : ℕ) (hj : j < 2048)
    (h : IsInf (x j * gn j)) (o : ℕ) (ho : o < 2048) : IsInf (hR eps c x gn o) := by
  refine isInf_mul_coe (fwht_inf _ j hj ?_ o ho) hc
  unfold nR
  rw [hρ, mul_assoc, mul_comm (ρ : EReal), ← mul_assoc]
  exact isInf_mul_coe h hρ0

/-- If the reciprocal norm is 0, the reference's transform is 0 everywhere. -/
theorem hR_zero (eps c : ℝ) (x gn : ℕ → EReal) (hρ : rR eps x = 0) (o : ℕ) (ho : o < 2048) : hR eps c x gn o = 0 := by
  unfold hR
  rw [fwht_congr (g := fun _ => ((0 * (0 : ℝ) : ℝ) : EReal)) (fun j _ => by unfold nR; rw [hρ]; simp) o ho]
  have e2 := congrFun (fwht_coe (fun _ => 0 * (0 : ℝ))) o
  rw [e2, fwht_smul]; simp

/-! ## The scale and the codes -/

/-- The largest entry depends only on the first 2048 entries. -/
theorem rowMax_congr {f g : ℕ → EReal} (h : ∀ o, o < 2048 → f o = g o) : rowMax f = rowMax g :=
  Finset.sup_congr rfl fun o ho => h o (Finset.mem_range.mp ho)

/-- The largest entry of a constant row. -/
theorem rowMax_const (a : EReal) : rowMax (fun _ => a) = a :=
  Finset.sup_const ⟨0, Finset.mem_range.mpr (by decide)⟩ a

/-- The largest entry commutes with multiplication by a positive real. -/
theorem rowMax_mul (f : ℕ → EReal) (κ : ℝ) (hκ : 0 < κ) : rowMax f * (κ : EReal) = rowMax (fun o => f o * (κ : EReal)) := by
  unfold rowMax
  have hm : Monotone (fun a : EReal => a * (κ : EReal)) := fun a b hab =>
    mul_le_mul_of_nonneg_right hab (by exact_mod_cast hκ.le)
  exact Finset.comp_sup_eq_sup_comp_of_is_total (fun a : EReal => a * (κ : EReal)) hm (EReal.bot_mul_coe_of_pos hκ)

/-- The magnitude of an infinite number is ∞. -/
theorem ab_inf {x : EReal} (h : IsInf x) : ab x = ⊤ := by rcases h with h | h <;> subst h <;> simp [ab]

/-- The magnitude of a product with a positive real. -/
theorem ab_mul (a κ : ℝ) (hκ : 0 < κ) : ab ((a * κ : ℝ) : EReal) = ab (a : EReal) * (κ : EReal) := by
  unfold ab
  rw [← EReal.coe_neg, ← EReal.coe_neg, ← coe_max', ← coe_max', ← EReal.coe_mul, max_mul_of_nonneg _ _ hκ.le, neg_mul]

/-- A scale is not 0. -/
theorem scaleOf_ne_zero (a : EReal) : scaleOf a ≠ 0 := by
  unfold scaleOf
  split
  · simp
  · rename_i h
    rw [div_coe _ (by norm_num)]
    induction a using EReal.rec with
    | bot => rw [EReal.bot_mul_coe_of_pos (by norm_num)]; simp
    | top => rw [EReal.top_mul_coe_of_pos (by norm_num)]; simp
    | coe r =>
      have hr : r ≠ 0 := by intro e; exact h (by rw [e]; simp)
      rw [← EReal.coe_mul]
      intro e
      have : r * (7 : ℝ)⁻¹ = 0 := by exact_mod_cast e
      rcases mul_eq_zero.mp this with e | e
      · exact hr e
      · norm_num at e

/-- Division by what is not 0 is multiplication by its inverse. -/
theorem div_of_ne {x y : EReal} (hy : y ≠ 0) : Ideal.div x y = x * y⁻¹ := by unfold Ideal.div; rw [if_neg hy]

/-- The scale of an infinite magnitude is ∞. -/
theorem scaleOf_top : scaleOf ⊤ = ⊤ := by
  unfold scaleOf
  rw [if_neg (by simp), div_coe _ (by norm_num), EReal.top_mul_coe_of_pos (by norm_num)]

/-- THE ROW THEOREM: whatever the row and the gains, infinite entries included, the kernel's scale and codes are the reference's. -/
theorem row_eq (eps c : ℝ) (heps : 0 < eps) (hc : 0 < c) (x gn : ℕ → EReal) :
    scaleK eps c x gn = scaleR eps c x gn ∧ ∀ o, o < 2048 → codeK eps c x gn o = codeR eps c x gn o := by
  by_cases hA : ∃ j, j < 2048 ∧ IsInf (x j)
  · obtain ⟨j, hj, hinf⟩ := hA
    have hr := rR_of_inf eps x j hj hinf
    have hrc : rcK eps c x = 0 := by rw [rcK_eq, hr, zero_mul]
    have hh := hR_zero eps c x gn hr
    have hsR : scaleR eps c x gn = scaleOf 0 := by
      unfold scaleR
      rw [rowMax_congr (g := fun _ => (0 : EReal)) (fun o ho => by rw [hh o ho]; simp [ab]), rowMax_const]
    have hsK : scaleK eps c x gn = scaleOf 0 := by unfold scaleK; rw [hrc, mul_zero]
    refine ⟨hsK.trans hsR.symm, fun o ho => ?_⟩
    unfold codeK codeR
    rw [hrc, hh o ho, hsK, hsR, div_of_ne (scaleOf_ne_zero 0), zero_mul, mul_zero]
  · have hfin : ∀ j, ∃ y : ℝ, j < 2048 → x j = (y : EReal) := by
      intro j
      by_cases hj : j < 2048
      · obtain ⟨y, hy⟩ := exists_coe (x := x j) (fun h => hA ⟨j, hj, h⟩)
        exact ⟨y, fun _ => hy⟩
      · exact ⟨0, fun h => absurd h hj⟩
    choose y hy using hfin
    obtain ⟨ρ, hρ0, hρ⟩ := rR_of_fin eps heps x y hy
    have hrc : rcK eps c x = ((ρ * c : ℝ) : EReal) := by rw [rcK_eq, hρ, EReal.coe_mul]
    have hκ : 0 < ρ * c := mul_pos hρ0 hc
    by_cases hB : ∃ j, j < 2048 ∧ IsInf (x j * gn j)
    · obtain ⟨j, hj, hinf⟩ := hB
      have iK := hK_inf x gn j hj hinf
      have iR := hR_inf eps c ρ x gn hρ0.ne' hc.ne' hρ j hj hinf
      have hsR : scaleR eps c x gn = ⊤ := by
        unfold scaleR
        rw [rowMax_congr (g := fun _ => (⊤ : EReal)) (fun o ho => ab_inf (iR o ho)), rowMax_const, scaleOf_top]
      have hsK : scaleK eps c x gn = ⊤ := by
        unfold scaleK
        rw [rowMax_congr (g := fun _ => (⊤ : EReal)) (fun o ho => ab_inf (iK o ho)), rowMax_const, hrc,
          EReal.top_mul_coe_of_pos hκ, scaleOf_top]
      refine ⟨hsK.trans hsR.symm, fun o ho => ?_⟩
      unfold codeK codeR
      rw [hsK, hsR, div_of_ne (by simp), div_of_ne (by simp), EReal.inv_top, mul_zero, mul_zero, mul_zero]
    · have hfin : ∀ j, ∃ p : ℝ, j < 2048 → x j * gn j = (p : EReal) := by
        intro j
        by_cases hj : j < 2048
        · obtain ⟨p, hp⟩ := exists_coe (x := x j * gn j) (fun h => hB ⟨j, hj, h⟩)
          exact ⟨p, fun _ => hp⟩
        · exact ⟨0, fun h => absurd h hj⟩
      choose p hp using hfin
      have fK := hK_fin x gn y p hy hp
      have fR := hR_fin eps c ρ x gn p hρ hp
      have hs : scaleK eps c x gn = scaleR eps c x gn := by
        unfold scaleK scaleR
        rw [hrc, rowMax_mul _ _ hκ]
        congr 1
        refine rowMax_congr fun o ho => ?_
        rw [fK o ho, fR o ho, ab_mul _ _ hκ]
      refine ⟨hs, fun o ho => ?_⟩
      unfold codeK codeR
      have hne : scaleR eps c x gn ≠ 0 := scaleOf_ne_zero _
      rw [hs, div_of_ne hne, div_of_ne hne, hrc, fK o ho, fR o ho, ← mul_assoc, ← EReal.coe_mul]

/-! ## Codes are small integers -/

/-- A rounded and clipped number is a whole number from −7 to 7. -/
theorem clip_rnd (x : EReal) : ∃ n : ℤ, -7 ≤ n ∧ n ≤ 7 ∧ clip (rnd x) = (((n : ℤ) : ℝ) : EReal) := by
  induction x using EReal.rec with
  | bot =>
    refine ⟨-7, by decide, by decide, ?_⟩
    have e : rnd ⊥ = ⊥ := rfl
    rw [e, clip, max_eq_left bot_le, min_eq_right]
    · norm_num
    · exact_mod_cast (by norm_num : (-7 : ℝ) ≤ 7)
  | top =>
    refine ⟨7, by decide, by decide, ?_⟩
    have e : rnd ⊤ = ⊤ := rfl
    rw [e, clip, max_eq_right le_top, min_eq_left le_top]
    norm_num
  | coe r =>
    refine ⟨min 7 (max (-7) (Ideal.roundHalfEven r)), by omega, by omega, ?_⟩
    show min ((7 : ℝ) : EReal) (max ((-7 : ℝ) : EReal) (((Ideal.roundHalfEven r : ℤ) : ℝ) : EReal)) = _
    rw [← coe_max', ← coe_min']
    push_cast
    rfl

end Cert.Rows

end
-- ==== Proof.Scratch.lean ====
module

public import proofs.«01_k».proof.Proof.Rows
public import proofs.«01_k».proof.Proof.Gen.KernelIdeal.Frame
public import Idealize.ShloMosaic.Lib.IdealHost
public import Idealize.ShloMosaic.Lib.Pointwise.ShapeOpsCore
public import Idealize.ShloMosaic.Lib.Pipeline.Value

@[expose] public section

/-! # What the kernel prepares at its first point: the signed gains and the unpacked weights

Both are written by many stores of one form. Each store is one piece (a rectangle and its values); every piece is shown at once
to be the part of one function that its rectangle names. -/

set_option maxRecDepth 16384

noncomputable section

namespace Cert.Kern

open Idealize.ShloMosaic Idealize.SL.Sem Cert.KernelIdeal Cert.KernelIdeal.Gen Cert.Had Cert.Rows

/-! ## The matrix of signs -/

/-- The parity of the ones of a word below 256, as the kernel computes it. -/
def fold8 (w : BitVec 32) : BitVec 32 :=
  let w := IntOp.xori w (IntOp.shrsi .vector w 4#32)
  let w := IntOp.xori w (IntOp.shrsi .vector w 2#32)
  let w := IntOp.xori w (IntOp.shrsi .vector w 1#32)
  IntOp.andi w 1#32

/-- The parity of the low `n` ones of `x`. -/
def par : ℕ → ℕ → Bool
  | 0, _ => false
  | n + 1, x => xor (par n (x / 2)) (x % 2 == 1)

/-- Folding eight bits onto the lowest gives their parity. -/
theorem fold8_eq (x : Fin 256) : (fold8 (BitVec.ofNat 32 x) == 1#32) = par 8 x := by
  revert x
  decide +kernel

/-- The recursive parity of the common bits is the parity of the bitwise and. -/
theorem sgb_eq_par (n : ℕ) : ∀ t v : ℕ, sgb n t v = par n (t &&& v) := by
  induction n with
  | zero => intro t v; rfl
  | succ n ih =>
    intro t v
    have e : (t % 2 == 1 && v % 2 == 1) = ((t &&& v) % 2 == 1) := by
      rw [Bool.eq_iff_iff]; simp [Nat.and_mod_two_eq_one]
    simp only [sgb, par, ih, Nat.and_div_two, e]

/-- The word of 1 denotes 1. -/
theorem one_val : (Scalar.ofBits .f32 0x3F800000#32 : Ideal .f32) = ((1 : ℝ) : EReal) := by
  show Ideal.ofBits .f32 0x3F800000#32 = _
  simp [Ideal.ofBits, Ideal.ieee, -EReal.coe_mul]; norm_num

/-- The word of −1 denotes −1. -/
theorem negone_val : (Scalar.ofBits .f32 0xBF800000#32 : Ideal .f32) = ((-1 : ℝ) : EReal) := by
  show Ideal.ofBits .f32 0xBF800000#32 = _
  simp [Ideal.ofBits, Ideal.ieee, -EReal.coe_mul]; norm_num

/-- The kernel's matrix of signs, entry by entry. -/
theorem sign_apply (i : S256x256.Idx) :
    k0_pay5 (F := Ideal) i = ((sg (sgb 8 (i 0).val (i 1).val) : ℝ) : EReal) := by
  have h0 : (i 0).val < 256 := (i 0).isLt
  have h1 : (i 1).val < 256 := (i 1).isLt
  have h := fold8_eq ⟨(i 0).val &&& (i 1).val, lt_of_le_of_lt Nat.and_le_left h0⟩
  have e : k0_pay5 (F := Ideal) i = Scalar.select (IntOp.cmpi .eq (fold8 (IntOp.andi (BitVec.ofNat 32 (i 0).val) (BitVec.ofNat 32 (i 1).val))) 1#32)
      (Scalar.ofBits .f32 0xBF800000#32 : Ideal .f32) (Scalar.ofBits .f32 0x3F800000#32 : Ideal .f32) := by
    have e0 : iota .tc S256x256 32 [0] (by decide) i = BitVec.ofNat 32 (i 0).val := by
      rw [iota_apply]; simp
    have e1 : iota .tc S256x256 32 [1] (by decide) i = BitVec.ofNat 32 (i 1).val := by
      rw [iota_apply]; simp
    rw [← e0, ← e1]
    rfl
  rw [e, one_val, negone_val, sgb_eq_par, show IntOp.andi (BitVec.ofNat 32 (i 0).val) (BitVec.ofNat 32 (i 1).val)
    = BitVec.ofNat 32 ((i 0).val &&& (i 1).val) from (BitVec.ofNat_and ..).symm, ← h]
  unfold Scalar.select IntOp.cmpi sg
  cases (fold8 (BitVec.ofNat 32 ((i 0).val &&& (i 1).val)) == 1#32) <;> rfl

/-! ## The signed gains -/

/-- The gains as a row. -/
def gainOf (x1 : Vec Ideal S2048x1 .f32) : ℕ → EReal := fun j => if h : j < 2048 then x1 (ix2 ⟨j, h⟩ 0) else 0

/-- The values of one store: limb `l` of a column of 256 gains, times the signs. -/
def hadP (l : ℕ) (v : Vec Ideal S256x1 .f32) : FVec Ideal S1x256x256 .bf16 :=
  match l with
  | 0 => k0_pay9 v
  | 1 => k0_pay11 v
  | _ => k0_pay13 k0_pay5 (k0_pay12 v)

/-- All the signed gains: entry `(g, k, b)`. -/
def HAD (x1 : Vec Ideal S2048x1 .f32) : Vec Ideal S8x768x256 .bf16 := fun y => hadE (gainOf x1) (y 0).val (y 1).val (y 2).val

/-- The gains a store of signs reads lie within the gains. -/
theorem inb_in (n : Fin 24) : ∀ a, (![256 * (n.val / 3), 0] : Fin 2 → ℕ) a + S256x1.size a ≤ S2048x1.size a := by
  revert n; decide

/-- A store of signs lies within the eight matrices. -/
theorem inb_out (n : Fin 24) : ∀ a, (![n.val / 3, 256 * (n.val % 3), 0] : Fin 3 → ℕ) a + S1x256x256.size a ≤ S8x768x256.size a := by
  revert n; decide

/-- Store `n`: group `n / 3`, limb `n % 3`. -/
def hadPiece (x1 : Vec Ideal S2048x1 .f32) (n : Fin 24) : View.Piece (Elt Ideal) S8x768x256 .bf16 :=
  ⟨Rect.unit (s := S8x768x256) ![n.val / 3, 256 * (n.val % 3), 0] S1x256x256.size (inb_out n),
    hadP (n.val % 3) (View.ld x1 (Rect.unit (s := S2048x1) ![256 * (n.val / 3), 0] S256x1.size (inb_in n)))⟩

/-- All the stores of the signed gains, the last first. -/
def hadPieces (x1 : Vec Ideal S2048x1 .f32) : List (View.Piece (Elt Ideal) S8x768x256 .bf16) :=
  ([23, 22, 21, 20, 19, 18, 17, 16, 15, 14, 13, 12, 11, 10, 9, 8, 7, 6, 5, 4, 3, 2, 1, 0] : List (Fin 24)).map (hadPiece x1)

/-- The column of gains, repeated over the columns of the matrix. -/
theorem bc_apply (v : Vec Ideal S256x1 .f32) (i : S256x256.Idx) : k0_pay6 v i = v (ix2 (i 0) 0) := by
  unfold k0_pay6
  rw [shapeCast_self, shapeCast_self]
  refine broadcastTo_apply _ _ _ _ fun a => ?_
  match a with
  | ⟨0, _⟩ => rfl
  | ⟨1, _⟩ => rfl

/-- One store of signs, entry by entry. -/
theorem hadP_apply (l : ℕ) (v : Vec Ideal S256x1 .f32) (i : S1x256x256.Idx) :
    hadP l v i = limb l (v (ix2 (i 1) 0)) * ((sg (sgb 8 (i 1).val (i 2).val) : ℝ) : EReal) := by
  have h0 : (i 0).val = 0 := by have : (i 0).val < 1 := (i 0).isLt; omega
  have hs (m : FVec Ideal S256x256 .bf16) (h : S256x256.ShapeCasts S1x256x256) : shapeCast S1x256x256 m h i = m (ix2 (i 1) (i 2)) := by
    refine shapeCast_apply m h i _ ?_
    rw [Shape.rowMajor_val_two, Shape.rowMajor_val_three]
    simp [h0]
  have hb : k0_pay6 v (ix2 (i 1) (i 2)) = v (ix2 (i 1) 0) := bc_apply v _
  have hg : k0_pay5 (F := Ideal) (ix2 (i 1) (i 2)) = ((sg (sgb 8 (i 1).val (i 2).val) : ℝ) : EReal) := sign_apply _
  rw [← hb, ← hg]
  match l with
  | 0 => unfold hadP k0_pay9; exact (hs _ _).trans rfl
  | 1 => unfold hadP k0_pay11; exact (hs _ _).trans rfl
  | n + 2 => unfold hadP k0_pay13; exact (hs _ _).trans rfl

/-- One store of signs writes the entries of `HAD` at its place. -/
theorem hadPiece_apply (x1 : Vec Ideal S2048x1 .f32) (n : Fin 24) (x : (hadPiece x1 n).1.shape.Idx) :
    (hadPiece x1 n).2 x = HAD x1 ((hadPiece x1 n).1.emb x) := by
  obtain ⟨n, hn⟩ := n
  have h0 : (x 0).val = 0 := by have : (x 0).val < 1 := (x 0).isLt; omega
  have h1 : (x 1).val < 256 := (x 1).isLt
  have e0 : ((hadPiece x1 ⟨n, hn⟩).1.emb x 0).val = n / 3 + 1 * (x 0).val := rfl
  have e1 : ((hadPiece x1 ⟨n, hn⟩).1.emb x 1).val = 256 * (n % 3) + 1 * (x 1).val := rfl
  have e2 : ((hadPiece x1 ⟨n, hn⟩).1.emb x 2).val = 0 + 1 * (x 2).val := rfl
  refine (hadP_apply (n % 3) _ x).trans ?_
  unfold HAD hadE
  rw [e0, e1, e2, h0, show (256 * (n % 3) + 1 * (x 1).val) / 256 = n % 3 by omega,
    show (256 * (n % 3) + 1 * (x 1).val) % 256 = (x 1).val by omega, Nat.zero_add]
  rw [show 1 * (x 2).val = (x 2).val by omega]
  congr 2
  unfold gainOf
  rw [dif_pos (by omega)]
  refine congrArg x1 (funext fun a => Fin.ext ?_)
  match a with
  | ⟨0, _⟩ => show 256 * (n / 3) + 1 * (x 1).val = 256 * (n / 3 + 1 * 0) + (x 1).val; omega
  | ⟨1, _⟩ => rfl

/-- Laying the stores of the signed gains down gives all the signed gains. -/
theorem had_canon (x1 : Vec Ideal S2048x1 .f32) : View.canon (hadPieces x1) = HAD x1 := by
  funext y
  refine View.canon_apply_of_pieces (HAD x1) _ (fun p hp x => ?_) y ?_
  · obtain ⟨n, _, rfl⟩ := List.mem_map.mp hp
    exact hadPiece_apply x1 n x
  · have h0 : (y 0).val < 8 := (y 0).isLt
    have h1 : (y 1).val < 768 := (y 1).isLt
    have h2 : (y 2).val < 256 := (y 2).isLt
    have hm (n : Fin 24) : n ∈ ([23, 22, 21, 20, 19, 18, 17, 16, 15, 14, 13, 12, 11, 10, 9, 8, 7, 6, 5, 4, 3, 2, 1, 0] : List (Fin 24)) := by
      revert n; decide
    refine ⟨_, List.mem_map_of_mem (hm ⟨3 * (y 0).val + (y 1).val / 256, by omega⟩), ?_⟩
    rw [hadPiece, Rect.mem_set_unit]
    intro a
    match a with
    | ⟨0, _⟩ =>
      show (3 * (y 0).val + (y 1).val / 256) / 3 ≤ (y 0).val ∧ (y 0).val < (3 * (y 0).val + (y 1).val / 256) / 3 + 1
      omega
    | ⟨1, _⟩ =>
      show 256 * ((3 * (y 0).val + (y 1).val / 256) % 3) ≤ (y 1).val ∧ (y 1).val < 256 * ((3 * (y 0).val + (y 1).val / 256) % 3) + 256
      omega
    | ⟨2, _⟩ =>
      show 0 ≤ (y 2).val ∧ (y 2).val < 0 + 256
      omega

/-! ## The unpacked weights -/

/-- Field `f` of a packed byte, minus one, as a number. -/
def wv (f : ℕ) (b : BitVec 8) : EReal :=
  FloatOps.sitofp (F := Ideal) .f32 (IntOp.subi (IntOp.andi (IntOp.shrsi .vector (b.zeroExtend 32) (BitVec.ofNat 32 (2 * f))) 3#32) 1#32)

/-- The values of one store of weights: field `f` of 32 rows. -/
def wP (f : ℕ) (v : Vec Ideal S32x1152 .i8) : FVec Ideal S32x1152 .bf16 :=
  shapeCast S32x1152 (truncf .bf16 (sitofp .f32 (subi (andi (shrsi (extui 32 v natLt_8_32) (broadcast S32x1152 (BitVec.ofNat 32 (2 * f))))
    (broadcast S32x1152 3#32)) (broadcast S32x1152 1#32))) bitsLt_bf16_f32) shapeCasts_S32x1152_S32x1152

/-- One store of weights, entry by entry. -/
theorem wP_apply (f : ℕ) (v : Vec Ideal S32x1152 .i8) (i : S32x1152.Idx) : wP f v i = wv f (v i) := by
  unfold wP
  rw [shapeCast_self]
  rfl

/-- All the weights: row `512 f + r` is field `f` of packed row `r`. -/
def WQ (x2 : Vec Ideal S512x1152 .i8) : Vec Ideal S2048x1152 .bf16 := fun y =>
  wv ((y 0).val / 512) (x2 (ix2 ⟨(y 0).val % 512, Nat.mod_lt _ (by decide)⟩ (y 1)))

/-- The packed rows a store of weights reads lie within the packed weights. -/
theorem inbw_in (n : Fin 64) : ∀ a, (![32 * (n.val / 4), 0] : Fin 2 → ℕ) a + S32x1152.size a ≤ S512x1152.size a := by
  revert n; decide

/-- A store of weights lies within the weights. -/
theorem inbw_out (n : Fin 64) : ∀ a, (![512 * (n.val % 4) + 32 * (n.val / 4), 0] : Fin 2 → ℕ) a + S32x1152.size a ≤ S2048x1152.size a := by
  revert n; decide

/-- Store `n` of the weights: packed rows `32 (n / 4) …`, field `n % 4`. -/
def wPiece (x2 : Vec Ideal S512x1152 .i8) (n : Fin 64) : View.Piece (Elt Ideal) S2048x1152 .bf16 :=
  ⟨Rect.unit (s := S2048x1152) ![512 * (n.val % 4) + 32 * (n.val / 4), 0] S32x1152.size (inbw_out n),
    wP (n.val % 4) (View.ld x2 (Rect.unit (s := S512x1152) ![32 * (n.val / 4), 0] S32x1152.size (inbw_in n)))⟩

/-- All the stores of the weights, the last first. -/
def wPieces (x2 : Vec Ideal S512x1152 .i8) : List (View.Piece (Elt Ideal) S2048x1152 .bf16) :=
  ([63, 62, 61, 60, 59, 58, 57, 56, 55, 54, 53, 52, 51, 50, 49, 48, 47, 46, 45, 44, 43, 42, 41, 40, 39, 38, 37, 36, 35, 34, 33, 32,
    31, 30, 29, 28, 27, 26, 25, 24, 23, 22, 21, 20, 19, 18, 17, 16, 15, 14, 13, 12, 11, 10, 9, 8, 7, 6, 5, 4, 3, 2, 1, 0] :
    List (Fin 64)).map (wPiece x2)

/-- One store of weights writes the entries of `WQ` at its place. -/
theorem wPiece_apply (x2 : Vec Ideal S512x1152 .i8) (n : Fin 64) (x : (wPiece x2 n).1.shape.Idx) :
    (wPiece x2 n).2 x = WQ x2 ((wPiece x2 n).1.emb x) := by
  obtain ⟨n, hn⟩ := n
  have h0 : (x 0).val < 32 := (x 0).isLt
  have e0 : ((wPiece x2 ⟨n, hn⟩).1.emb x 0).val = 512 * (n % 4) + 32 * (n / 4) + 1 * (x 0).val := rfl
  have e1 : ((wPiece x2 ⟨n, hn⟩).1.emb x 1).val = 0 + 1 * (x 1).val := rfl
  refine Eq.trans (b := wv (n % 4) (x2 ((Rect.unit (s := S512x1152) ![32 * (n / 4), 0] S32x1152.size (inbw_in ⟨n, hn⟩)).idx x))) (wP_apply (n % 4) _ x) ?_
  have hq : ((wPiece x2 ⟨n, hn⟩).1.emb x 0).val / 512 = n % 4 := by rw [e0]; omega
  refine congrArg₂ wv hq.symm (congrArg x2 (funext fun a => Fin.ext ?_))
  match a with
  | ⟨0, _⟩ => show 32 * (n / 4) + 1 * (x 0).val = ((wPiece x2 ⟨n, hn⟩).1.emb x 0).val % 512; rw [e0]; omega
  | ⟨1, _⟩ => exact e1.symm

/-- Laying the stores of the weights down gives all the weights. -/
theorem w_canon (x2 : Vec Ideal S512x1152 .i8) : View.canon (wPieces x2) = WQ x2 := by
  funext y
  refine View.canon_apply_of_pieces (WQ x2) _ (fun p hp x => ?_) y ?_
  · obtain ⟨n, _, rfl⟩ := List.mem_map.mp hp
    exact wPiece_apply x2 n x
  · have h0 : (y 0).val < 2048 := (y 0).isLt
    have h1 : (y 1).val < 1152 := (y 1).isLt
    have hm (n : Fin 64) : n ∈ ([63, 62, 61, 60, 59, 58, 57, 56, 55, 54, 53, 52, 51, 50, 49, 48, 47, 46, 45, 44, 43, 42, 41, 40, 39, 38,
        37, 36, 35, 34, 33, 32, 31, 30, 29, 28, 27, 26, 25, 24, 23, 22, 21, 20, 19, 18, 17, 16, 15, 14, 13, 12, 11, 10, 9, 8, 7, 6, 5,
        4, 3, 2, 1, 0] : List (Fin 64)) := by
      revert n; decide
    refine ⟨_, List.mem_map_of_mem (hm ⟨4 * ((y 0).val % 512 / 32) + (y 0).val / 512, by omega⟩), ?_⟩
    rw [wPiece, Rect.mem_set_unit]
    intro a
    match a with
    | ⟨0, _⟩ =>
      show 512 * ((4 * ((y 0).val % 512 / 32) + (y 0).val / 512) % 4) + 32 * ((4 * ((y 0).val % 512 / 32) + (y 0).val / 512) / 4) ≤ (y 0).val
        ∧ (y 0).val < 512 * ((4 * ((y 0).val % 512 / 32) + (y 0).val / 512) % 4) + 32 * ((4 * ((y 0).val % 512 / 32) + (y 0).val / 512) / 4) + 32
      omega
    | ⟨1, _⟩ =>
      show 0 ≤ (y 1).val ∧ (y 1).val < 0 + 1152
      omega

end Cert.Kern

end
-- ==== Proof.First.lean ====
module

public import proofs.«01_k».proof.Proof.Scratch
public import proofs.«01_k».proof.Proof.Gen.KernelIdeal.Frame

@[expose] public section

/-! # The first point's scratch contents -/

set_option maxRecDepth 16384

noncomputable section

namespace Cert.Kern

open Idealize.ShloMosaic Idealize.SL.Sem Cert.KernelIdeal Cert.KernelIdeal.Gen

variable (c : Dev nD) (i : grid0.Coords) (arg1 : Memref sig .tc .vmem S256x2048 .bf16) (harg1 : arg1.IsWhole) (arg2 : Memref sig .tc .vmem S2048x1 .f32) (harg2 : arg2.IsWhole) (arg3 : Memref sig .tc .vmem S512x1152 .i8) (harg3 : arg3.IsWhole) (arg4 : Memref sig .tc .smem S1 .f32) (harg4 : arg4.IsWhole) (arg5 : Memref sig .tc .vmem S256x1152 .bf16) (harg5 : arg5.IsWhole) (arg6 : Memref sig .tc .vmem S256x2048 .i8) (harg6 : arg6.IsWhole) (arg7 : Memref sig .tc .vmem S256x1 .f32) (harg7 : arg7.IsWhole) (arg8 : Memref sig .tc .vmem S8x768x256 .bf16) (harg8 : arg8.IsWhole) (arg9 : Memref sig .tc .vmem S2048x1152 .bf16) (harg9 : arg9.IsWhole) (arg10 : Memref sig .tc .vmem S256x2048 .f32) (harg10 : arg10.IsWhole) (arg11 : Memref sig .tc .vmem S256x2048 .bf16) (harg11 : arg11.IsWhole) (hc0 : cond0_0 i) (x0 : Vec Ideal S256x2048 .bf16) (x1 : Vec Ideal S2048x1 .f32) (x2 : Vec Ideal S512x1152 .i8) (x3 : Vec Ideal S1 .f32)

include hc0 in
/-- The stores of the signed gains, as the body makes them. -/
theorem had_list : (kernelRun0_A (F := Ideal) c i arg1 harg1 arg2 harg2 arg3 harg3 arg4 harg4 arg5 harg5 arg6 harg6 arg7 harg7 arg8 harg8 arg9 harg9 arg10 harg10 arg11 harg11 hc0 x0 x1 x2 x3).2.2.2.1 = hadPieces x1 := by
  unfold kernelRun0_A
  dsimp only
  sl_unfold_words
  simp only [View.readAt_eq_ld, harg2.read_unread]
  rfl

/-- The stores of the weights, as the body makes them. -/
theorem w_list : (kernelRun0_A (F := Ideal) c i arg1 harg1 arg2 harg2 arg3 harg3 arg4 harg4 arg5 harg5 arg6 harg6 arg7 harg7 arg8 harg8 arg9 harg9 arg10 harg10 arg11 harg11 hc0 x0 x1 x2 x3).2.2.2.2.1 = wPieces x2 := by
  unfold kernelRun0_A
  dsimp only
  sl_unfold_words
  simp only [View.readAt_eq_ld, harg3.read_unread]
  rfl

/-- After the first point the first scratch holds the signed gains. -/
theorem sout_had : sout0_A_0 (F := Ideal) c i arg1 harg1 arg2 harg2 arg3 harg3 arg4 harg4 arg5 harg5 arg6 harg6 arg7 harg7 arg8 harg8 arg9 harg9 arg10 harg10 arg11 harg11 hc0 x0 x1 x2 x3 = HAD x1 := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 hc0 x0 x1 x2 x3), had_list, had_canon]

/-- After the first point the second scratch holds the weights. -/
theorem sout_w : sout0_A_1 (F := Ideal) c i arg1 harg1 arg2 harg2 arg3 harg3 arg4 harg4 arg5 harg5 arg6 harg6 arg7 harg7 arg8 harg8 arg9 harg9 arg10 harg10 arg11 harg11 hc0 x0 x1 x2 x3 = WQ x2 := by
  unfold sout0_A_1
  rw [View.read_writes_eq_canon _ _ _ (scover0_A_1 (F := Ideal) c i arg1 harg1 arg2 harg2 arg3 harg3 arg4 harg4 arg5 harg5 arg6 harg6 arg7 harg7 arg8 harg8 arg9 harg9 arg10 harg10 arg11 harg11 hc0 x0 x1 x2 x3), w_list, w_canon]

end Cert.Kern

end
-- ==== Proof.Block.lean ====
module

public import proofs.«01_k».proof.Proof.First
public import proofs.«01_k».proof.Proof.Gen.KernelIdeal.Frame

@[expose] public section

/-! # One block of rows: what a point computes of its rows, the signed gains and the weights

`X` is a block of 256 rows, `H` the signed gains, `W` the weights. The functions below are the body's own operations, the eight
groups of 256 columns written once. -/

set_option maxRecDepth 16384

noncomputable section

namespace Cert.Kern

open Idealize.ShloMosaic Idealize.SL.Sem Cert.KernelIdeal Cert.KernelIdeal.Gen Cert.Had Cert.Rows

/-- Group `g` of 256 columns lies within a block of 2048 columns. -/
theorem slices_group (g : Fin 8) : S256x2048.Slices ![0, 256 * g.val] S256x256 := by
  revert g; decide

/-- Matrix `g` lies within the eight prepared matrices. -/
theorem inb_group (g : Fin 8) : ∀ a, (![g.val, 0, 0] : Fin 3 → ℕ) a + S1x768x256.size a ≤ S8x768x256.size a := by
  revert g; decide

/-- The store of group `g` of 256 columns lies within the block. -/
theorem inb_cols (g : Fin 8) : ∀ a, (![0, 256 * g.val] : Fin 2 → ℕ) a + S256x256.size a ≤ S256x2048.size a := by
  revert g; decide

/-- Group `g`'s 256 columns. -/
def groupX (X : Vec Ideal S256x2048 .bf16) (g : Fin 8) : FVec Ideal S256x256 .bf16 :=
  extractStridedSlice S256x256 ![0, 256 * g.val] (shapeCast S256x2048 X shapeCasts_S256x2048_S256x2048) (slices_group g)

/-- A group's columns three times over, one copy per limb. -/
def three (v : FVec Ideal S256x256 .bf16) : FVec Ideal S256x768 .bf16 :=
  concatenate S256x768 1 [⟨S256x256, v⟩, ⟨S256x256, v⟩, ⟨S256x256, v⟩] concatenates_S256x256_S256x256_S256x256_S256x768_d1

/-- Group `g`'s signed gains as a matrix. -/
def groupH (H : Vec Ideal S8x768x256 .bf16) (g : Fin 8) : FVec Ideal S768x256 .bf16 :=
  shapeCast S768x256 (View.ld H (Rect.unit (s := S8x768x256) ![g.val, 0, 0] S1x768x256.size (inb_group g))) shapeCasts_S1x768x256_S768x256

/-- Group `g`'s product: its 256 columns, three times over, with its signed gains. -/
def dotV (X : Vec Ideal S256x2048 .bf16) (H : Vec Ideal S8x768x256 .bf16) (g : Fin 8) : FVec Ideal S256x256 .f32 :=
  matmul dot_S256x768_S768x256_S256x256_1_0_0_1_n_n none (three (groupX X g)) (groupH H g) (constant S256x256 .f32 0x00000000#32)

/-- One stage of butterflies between the groups. -/
def vstage (m : ℕ) (f : ℕ → FVec Ideal S256x256 .f32) (i : ℕ) : FVec Ideal S256x256 .f32 :=
  if i / m % 2 = 0 then addf (f i) (f (i + m)) else subf (f (i - m)) (f i)

/-- The groups' products after two stages. -/
def two (X : Vec Ideal S256x2048 .bf16) (H : Vec Ideal S8x768x256 .bf16) : ℕ → FVec Ideal S256x256 .f32 :=
  vstage 2 (vstage 4 fun g => dotV X H (Fin.ofNat 8 g))

/-- The transform's group `g`. -/
def hv (X : Vec Ideal S256x2048 .bf16) (H : Vec Ideal S8x768x256 .bf16) : ℕ → FVec Ideal S256x256 .f32 := vstage 1 (two X H)

/-- The block's scales. -/
def SC (X : Vec Ideal S256x2048 .bf16) (H : Vec Ideal S8x768x256 .bf16) : FVec Ideal S256x1 .f32 :=
  k0_pay200 (k0_pay165 X) (two X H 6) (two X H 7) (hv X H 0) (hv X H 1) (hv X H 2) (hv X H 3) (hv X H 4) (hv X H 5)

/-- The factors the transform is multiplied by before rounding. -/
def QV (X : Vec Ideal S256x2048 .bf16) (H : Vec Ideal S8x768x256 .bf16) : FVec Ideal S256x1 .f32 := divf (k0_pay165 X) (SC X H)

/-- Group `g`'s codes, as numbers. -/
def codeV (X : Vec Ideal S256x2048 .bf16) (H : Vec Ideal S8x768x256 .bf16) (g : Fin 8) : FVec Ideal S256x256 .f32 :=
  minimumf (broadcast S256x256 (Scalar.ofBits .f32 0x40E00000#32))
    (maximumf (broadcast S256x256 (Scalar.ofBits .f32 0xC0E00000#32))
      (roundeven (mulf (hv X H g.val) (broadcastTo S256x256 (QV X H) broadcasts_S256x1_S256x256))))

/-- The store of group `g`'s codes, as integers of eight bits. -/
def codePiece (X : Vec Ideal S256x2048 .bf16) (H : Vec Ideal S8x768x256 .bf16) (g : Fin 8) : View.Piece (Elt Ideal) S256x2048 .i8 :=
  ⟨Rect.unit (s := S256x2048) ![0, 256 * g.val] S256x256.size (inb_cols g), fptosi 8 (codeV X H g)⟩

/-- The store of group `g`'s codes for the product with the weights. -/
def lhsPiece (X : Vec Ideal S256x2048 .bf16) (H : Vec Ideal S8x768x256 .bf16) (g : Fin 8) : View.Piece (Elt Ideal) S256x2048 .bf16 :=
  ⟨Rect.unit (s := S256x2048) ![0, 256 * g.val] S256x256.size (inb_cols g),
    shapeCast S256x256 (truncf .bf16 (codeV X H g) bitsLt_bf16_f32) shapeCasts_S256x256_S256x256⟩

/-- The eight groups, the last first. -/
def groups : List (Fin 8) := [7, 6, 5, 4, 3, 2, 1, 0]

/-- The block's codes as numbers, all columns. -/
def CODE (X : Vec Ideal S256x2048 .bf16) (H : Vec Ideal S8x768x256 .bf16) : Vec Ideal S256x2048 .bf16 := fun y =>
  codeV X H (Fin.ofNat 8 ((y 1).val / 256)) (ix2 (y 0) ⟨(y 1).val % 256, Nat.mod_lt _ (by decide)⟩)

/-- The block's codes as integers. -/
def CODEI (X : Vec Ideal S256x2048 .bf16) (H : Vec Ideal S8x768x256 .bf16) : Vec Ideal S256x2048 .i8 := fun y =>
  FloatOps.fptosi (F := Ideal) (φ := .f32) 8 (CODE X H y)

/-- The block's result. -/
def YV (X : Vec Ideal S256x2048 .bf16) (H : Vec Ideal S8x768x256 .bf16) (W : Vec Ideal S2048x1152 .bf16) (ws : Elt Ideal .f32) :
    FVec Ideal S256x1152 .bf16 := k0_pay4 (SC X H) (CODE X H) W ws

/-- The result written depends only on the scales, the codes and the weights it is computed from. -/
theorem pay4_congr {a a' : FVec Ideal S256x1 .f32} {b b' : Vec Ideal S256x2048 .bf16} {w w' : Vec Ideal S2048x1152 .bf16}
    {d d' : Elt Ideal .f32} (ha : a = a') (hb : b = b') (hw : w = w') (hd : d = d') : k0_pay4 a b w d = k0_pay4 a' b' w' d' := by
  subst ha hb hw hd; rfl

/-- The position of a column in its group. -/
theorem piece_index (g : Fin 8) (x : S256x256.Idx) (y : S256x2048.Idx)
    (hy : ∀ a, (y a).val = (![0, 256 * g.val] : Fin 2 → ℕ) a + 1 * (x a).val) :
    Fin.ofNat 8 ((y 1).val / 256) = g ∧ (ix2 (y 0) ⟨(y 1).val % 256, Nat.mod_lt _ (by decide)⟩ : S256x256.Idx) = x := by
  have h1 : (x 1).val < 256 := (x 1).isLt
  have e0 : (y 0).val = 0 + 1 * (x 0).val := hy 0
  have e1 : (y 1).val = 256 * g.val + 1 * (x 1).val := hy 1
  refine ⟨Fin.ext ?_, funext fun a => Fin.ext ?_⟩
  · show (y 1).val / 256 % 8 = g.val
    have := g.isLt
    omega
  · match a with
    | ⟨0, _⟩ => show (y 0).val = (x 0).val; omega
    | ⟨1, _⟩ => show (y 1).val % 256 = (x 1).val; omega

/-- The eight stores of integer codes make up the block of codes. -/
theorem code_canon (X : Vec Ideal S256x2048 .bf16) (H : Vec Ideal S8x768x256 .bf16)
    (hc : ∀ y, ∃ p ∈ groups.map (codePiece X H), y ∈ p.1.set) : View.canon (groups.map (codePiece X H)) = CODEI X H := by
  funext y
  refine View.canon_apply_of_pieces (CODEI X H) _ (fun p hp x => ?_) y (hc y)
  obtain ⟨g, _, rfl⟩ := List.mem_map.mp hp
  obtain ⟨e1, e2⟩ := piece_index g x ((codePiece X H g).1.emb x) (fun _ => rfl)
  show FloatOps.fptosi (F := Ideal) (φ := .f32) 8 (codeV X H g x) = FloatOps.fptosi (F := Ideal) (φ := .f32) 8 (codeV X H _ _)
  rw [e1, e2]

/-- Each of the eight groups is in the list of stores. -/
theorem mem_groups (g : Fin 8) : g ∈ groups := by revert g; decide

/-- The eight stores of codes as numbers make up the block of codes. -/
theorem lhs_canon (X : Vec Ideal S256x2048 .bf16) (H : Vec Ideal S8x768x256 .bf16) :
    View.canon (groups.map (lhsPiece X H)) = CODE X H := by
  funext y
  refine View.canon_apply_of_pieces (CODE X H) _ (fun p hp x => ?_) y ?_
  · obtain ⟨g, _, rfl⟩ := List.mem_map.mp hp
    obtain ⟨e1, e2⟩ := piece_index g x ((lhsPiece X H g).1.emb x) (fun _ => rfl)
    show shapeCast S256x256 (truncf .bf16 (codeV X H g) bitsLt_bf16_f32) shapeCasts_S256x256_S256x256 x = codeV X H _ _
    rw [e1, e2, shapeCast_self]
    rfl
  · have h1 : (y 1).val < 2048 := (y 1).isLt
    refine ⟨_, List.mem_map_of_mem (mem_groups ⟨(y 1).val / 256, by omega⟩), ?_⟩
    rw [lhsPiece, Rect.mem_set_unit]
    intro a
    match a with
    | ⟨0, _⟩ => exact ⟨Nat.zero_le _, by show (y 0).val < 0 + 256; have : (y 0).val < 256 := (y 0).isLt; omega⟩
    | ⟨1, _⟩ => exact ⟨by show 256 * ((y 1).val / 256) ≤ (y 1).val; omega, by show (y 1).val < 256 * ((y 1).val / 256) + 256; omega⟩

/-- Loading a whole block of rows gives the block. -/
theorem ld_rows (x : Vec Ideal S256x2048 .bf16) (inb) : View.ld x (Rect.unit (s := S256x2048) ![0, 0] ![256, 2048] inb) = x :=
  View.ld_unit_zero (S := S256x2048) (by decide) inb x
/-- Loading all the weights gives the weights. -/
theorem ld_weights (x : Vec Ideal S2048x1152 .bf16) (inb) : View.ld x (Rect.unit (s := S2048x1152) ![0, 0] ![2048, 1152] inb) = x :=
  View.ld_unit_zero (S := S2048x1152) (by decide) inb x
/-- A load of a whole block reads nothing but what the stores of that block left. -/
theorem cov_rows {sp : Space} (v : View sig .tc sp S256x2048 .bf16) (L : List (View.Piece (Elt Ideal) S256x2048 .bf16)) (inb) :
    v.readCov L (Rect.unit (s := S256x2048) ![0, 0] ![256, 2048] inb).toLoadRect = View.canon L :=
  (View.readCov_eq_canon' v L _).trans (ld_rows (View.canon L) inb)
/-- A load of all the weights reads nothing but what the stores of the weights left. -/
theorem cov_weights {sp : Space} (v : View sig .tc sp S2048x1152 .bf16) (L : List (View.Piece (Elt Ideal) S2048x1152 .bf16)) (inb) :
    v.readCov L (Rect.unit (s := S2048x1152) ![0, 0] ![2048, 1152] inb).toLoadRect = View.canon L :=
  (View.readCov_eq_canon' v L _).trans (ld_weights (View.canon L) inb)
/-- The weight scale as the body reads it: the one element of its array. -/
theorem ld_ws (x : Vec Ideal S1 .f32) (inb) (i : (Rect.unit (s := S1) ![0] ![1] inb).shape.Idx) :
    View.ld x (Rect.unit (s := S1) ![0] ![1] inb) i = x (ix1 0) := by
  show x _ = x _
  refine congrArg x (funext fun a => Fin.ext ?_)
  match a with
  | ⟨0, _⟩ => show 0 + 1 * (i 0).val = 0; have : (i 0).val < 1 := (i 0).isLt; omega
/-- One store of a whole column of scales leaves that column. -/
theorem canon_scale (x : Vec Ideal S256x1 .f32) (inb) :
    View.canon [(⟨Rect.unit (s := S256x1) ![0, 0] ![256, 1] inb, x⟩ : View.Piece (Elt Ideal) S256x1 .f32)] = x :=
  View.canon_unit_zero (S := S256x1) (by decide) inb x
/-- One store of a whole block of results leaves that block. -/
theorem canon_y (x : Vec Ideal S256x1152 .bf16) (inb) :
    View.canon [(⟨Rect.unit (s := S256x1152) ![0, 0] ![256, 1152] inb, x⟩ : View.Piece (Elt Ideal) S256x1152 .bf16)] = x :=
  View.canon_unit_zero (S := S256x1152) (by decide) inb x

end Cert.Kern

end
-- ==== Proof.Points.lean ====
module

public import proofs.«01_k».proof.Proof.Block
public import proofs.«01_k».proof.Proof.Gen.KernelIdeal.Frame

@[expose] public section

/-! # What a point's outputs are, as functions of its blocks and the scratch -/

set_option maxRecDepth 16384

noncomputable section

namespace Cert.Kern

open Idealize.ShloMosaic Idealize.SL.Sem Cert.KernelIdeal Cert.KernelIdeal.Gen

variable (c : Dev nD) (i : grid0.Coords) (arg1 : Memref sig .tc .vmem S256x2048 .bf16) (harg1 : arg1.IsWhole) (arg2 : Memref sig .tc .vmem S2048x1 .f32) (harg2 : arg2.IsWhole) (arg3 : Memref sig .tc .vmem S512x1152 .i8) (harg3 : arg3.IsWhole) (arg4 : Memref sig .tc .smem S1 .f32) (harg4 : arg4.IsWhole) (arg5 : Memref sig .tc .vmem S256x1152 .bf16) (harg5 : arg5.IsWhole) (arg6 : Memref sig .tc .vmem S256x2048 .i8) (harg6 : arg6.IsWhole) (arg7 : Memref sig .tc .vmem S256x1 .f32) (harg7 : arg7.IsWhole) (arg8 : Memref sig .tc .vmem S8x768x256 .bf16) (harg8 : arg8.IsWhole) (arg9 : Memref sig .tc .vmem S2048x1152 .bf16) (harg9 : arg9.IsWhole) (arg10 : Memref sig .tc .vmem S256x2048 .f32) (harg10 : arg10.IsWhole) (arg11 : Memref sig .tc .vmem S256x2048 .bf16) (harg11 : arg11.IsWhole)

set_option maxHeartbeats 4000000 in
/-- At a later point the block's scales are those of the signed gains the scratch holds. -/
theorem outB_6 (hc0 : ¬ cond0_0 i) (x0 : Vec Ideal S256x2048 .bf16) (x1 : Vec Ideal S2048x1 .f32) (x2 : Vec Ideal S512x1152 .i8) (x3 : Vec Ideal S1 .f32) (xs0 : Vec Ideal S8x768x256 .bf16) (xs1 : Vec Ideal S2048x1152 .bf16) :
    out0_B_6 (F := Ideal) c i arg1 harg1 arg2 harg2 arg3 harg3 arg4 harg4 arg5 harg5 arg6 harg6 arg7 harg7 arg8 harg8 arg9 harg9 arg10 harg10 arg11 harg11 hc0 x0 x1 x2 x3 xs0 xs1 = SC x0 xs0 := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 arg11 harg11 hc0 x0 x1 x2 x3 xs0 xs1)]
  unfold kernelRun0_B
  dsimp only
  sl_unfold_words
  simp only [View.readAt_eq_ld, harg1.read_unread, harg4.read_unread, harg8.read_unread, harg9.read_unread, cov_rows, cov_weights, ld_ws, ld_rows, ld_weights, canon_scale, canon_y]
  rfl

set_option maxHeartbeats 4000000 in
/-- And so are its codes. -/
theorem outB_5 (hc0 : ¬ cond0_0 i) (x0 : Vec Ideal S256x2048 .bf16) (x1 : Vec Ideal S2048x1 .f32) (x2 : Vec Ideal S512x1152 .i8) (x3 : Vec Ideal S1 .f32) (xs0 : Vec Ideal S8x768x256 .bf16) (xs1 : Vec Ideal S2048x1152 .bf16) :
    out0_B_5 (F := Ideal) c i arg1 harg1 arg2 harg2 arg3 harg3 arg4 harg4 arg5 harg5 arg6 harg6 arg7 harg7 arg8 harg8 arg9 harg9 arg10 harg10 arg11 harg11 hc0 x0 x1 x2 x3 xs0 xs1 = CODEI x0 xs0 := by
  have hc := cover0_B_5 (F := Ideal) c i arg1 harg1 arg2 harg2 arg3 harg3 arg4 harg4 arg5 harg5 arg6 harg6 arg7 harg7 arg8 harg8 arg9 harg9 arg10 harg10 arg11 harg11 hc0 x0 x1 x2 x3 xs0 xs1
  unfold out0_B_5
  rw [View.read_writes_eq_canon _ _ _ hc]
  have e : (kernelRun0_B (F := Ideal) c i arg1 harg1 arg2 harg2 arg3 harg3 arg4 harg4 arg5 harg5 arg6 harg6 arg7 harg7 arg8 harg8 arg9 harg9 arg10 harg10 arg11 harg11 hc0 x0 x1 x2 x3 xs0 xs1).2.1 = groups.map (codePiece x0 xs0) := by
    unfold kernelRun0_B
    dsimp only
    sl_unfold_words
    simp only [View.readAt_eq_ld, harg1.read_unread, harg4.read_unread, harg8.read_unread, harg9.read_unread, cov_rows, cov_weights, ld_ws, ld_rows, ld_weights, canon_scale, canon_y]
    rfl
  rw [e] at hc ⊢
  exact code_canon x0 xs0 hc

set_option maxHeartbeats 4000000 in
/-- And its result. -/
theorem outB_4 (hc0 : ¬ cond0_0 i) (x0 : Vec Ideal S256x2048 .bf16) (x1 : Vec Ideal S2048x1 .f32) (x2 : Vec Ideal S512x1152 .i8) (x3 : Vec Ideal S1 .f32) (xs0 : Vec Ideal S8x768x256 .bf16) (xs1 : Vec Ideal S2048x1152 .bf16) :
    out0_B_4 (F := Ideal) c i arg1 harg1 arg2 harg2 arg3 harg3 arg4 harg4 arg5 harg5 arg6 harg6 arg7 harg7 arg8 harg8 arg9 harg9 arg10 harg10 arg11 harg11 hc0 x0 x1 x2 x3 xs0 xs1 = YV x0 xs0 xs1 (x3 (ix1 0)) := by
  unfold out0_B_4
  rw [View.read_writes_eq_canon _ _ _ (cover0_B_4 (F := Ideal) c i arg1 harg1 arg2 harg2 arg3 harg3 arg4 harg4 arg5 harg5 arg6 harg6 arg7 harg7 arg8 harg8 arg9 harg9 arg10 harg10 arg11 harg11 hc0 x0 x1 x2 x3 xs0 xs1)]
  unfold kernelRun0_B
  dsimp only
  sl_unfold_words
  simp only [View.readAt_eq_ld, harg1.read_unread, harg4.read_unread, harg8.read_unread, harg9.read_unread, cov_rows, cov_weights, ld_ws, ld_rows, ld_weights, canon_scale, canon_y]
  unfold YV
  rw [← lhs_canon]
  refine pay4_congr ?_ ?_ ?_ ?_
  · rfl
  · refine congrArg View.canon ?_
    rfl
  · rfl
  · exact ld_ws x3 _ _

set_option maxHeartbeats 4000000 in
/-- At the first point the block's scales are those of the signed gains just prepared. -/
theorem outA_6 (hc0 : cond0_0 i) (x0 : Vec Ideal S256x2048 .bf16) (x1 : Vec Ideal S2048x1 .f32) (x2 : Vec Ideal S512x1152 .i8) (x3 : Vec Ideal S1 .f32) :
    out0_A_6 (F := Ideal) c i arg1 harg1 arg2 harg2 arg3 harg3 arg4 harg4 arg5 harg5 arg6 harg6 arg7 harg7 arg8 harg8 arg9 harg9 arg10 harg10 arg11 harg11 hc0 x0 x1 x2 x3 = SC x0 (HAD x1) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  simp only [View.readAt_eq_ld, harg1.read_unread, harg2.read_unread, harg3.read_unread, harg4.read_unread, cov_rows, cov_weights, ld_ws, ld_rows, canon_scale, canon_y]
  simp only [View.readCov_eq_canon']
  rw [← had_canon]
  rfl

set_option maxHeartbeats 4000000 in
/-- And so are its codes. -/
theorem outA_5 (hc0 : cond0_0 i) (x0 : Vec Ideal S256x2048 .bf16) (x1 : Vec Ideal S2048x1 .f32) (x2 : Vec Ideal S512x1152 .i8) (x3 : Vec Ideal S1 .f32) :
    out0_A_5 (F := Ideal) c i arg1 harg1 arg2 harg2 arg3 harg3 arg4 harg4 arg5 harg5 arg6 harg6 arg7 harg7 arg8 harg8 arg9 harg9 arg10 harg10 arg11 harg11 hc0 x0 x1 x2 x3 = CODEI x0 (HAD x1) := by
  have hc := cover0_A_5 (F := Ideal) c i arg1 harg1 arg2 harg2 arg3 harg3 arg4 harg4 arg5 harg5 arg6 harg6 arg7 harg7 arg8 harg8 arg9 harg9 arg10 harg10 arg11 harg11 hc0 x0 x1 x2 x3
  unfold out0_A_5
  rw [View.read_writes_eq_canon _ _ _ hc]
  have e : (kernelRun0_A (F := Ideal) c i arg1 harg1 arg2 harg2 arg3 harg3 arg4 harg4 arg5 harg5 arg6 harg6 arg7 harg7 arg8 harg8 arg9 harg9 arg10 harg10 arg11 harg11 hc0 x0 x1 x2 x3).2.1 = groups.map (codePiece x0 (HAD x1)) := by
    unfold kernelRun0_A
    dsimp only
    sl_unfold_words
    simp only [View.readAt_eq_ld, harg1.read_unread, harg2.read_unread, harg3.read_unread, harg4.read_unread, cov_rows, cov_weights, ld_ws, ld_rows, canon_scale, canon_y]
    simp only [View.readCov_eq_canon']
    rw [← had_canon]
    rfl
  rw [e] at hc ⊢
  exact code_canon x0 (HAD x1) hc

set_option maxHeartbeats 4000000 in
/-- And its result. -/
theorem outA_4 (hc0 : cond0_0 i) (x0 : Vec Ideal S256x2048 .bf16) (x1 : Vec Ideal S2048x1 .f32) (x2 : Vec Ideal S512x1152 .i8) (x3 : Vec Ideal S1 .f32) :
    out0_A_4 (F := Ideal) c i arg1 harg1 arg2 harg2 arg3 harg3 arg4 harg4 arg5 harg5 arg6 harg6 arg7 harg7 arg8 harg8 arg9 harg9 arg10 harg10 arg11 harg11 hc0 x0 x1 x2 x3 = YV x0 (HAD x1) (WQ x2) (x3 (ix1 0)) := by
  unfold out0_A_4
  rw [View.read_writes_eq_canon _ _ _ (cover0_A_4 (F := Ideal) c i arg1 harg1 arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  simp only [View.readAt_eq_ld, harg1.read_unread, harg2.read_unread, harg3.read_unread, harg4.read_unread, cov_rows, cov_weights, ld_ws, ld_rows, canon_scale, canon_y]
  simp only [View.readCov_eq_canon']
  unfold YV
  rw [← lhs_canon, ← had_canon, ← w_canon]
  refine pay4_congr ?_ ?_ ?_ ?_
  · rfl
  · refine congrArg View.canon ?_
    rfl
  · rfl
  · exact ld_ws x3 _ _

end Cert.Kern

end
-- ==== Proof.Grid.lean ====
module
public import proofs.«01_k».proof.Proof.Points
public import proofs.«01_k».proof.Proof.First
public import proofs.«01_k».proof.Proof.Gen.KernelIdeal.Value
public import Idealize.ShloMosaic.Lib.Pipeline.ValueKit

@[expose] public section

/-! # What the kernel's three arrays hold after the last point of the grid -/

set_option maxRecDepth 16384

noncomputable section

namespace Cert.Kern

open Idealize.ShloMosaic Idealize.SL.Sem Cert.KernelIdeal Cert.KernelIdeal.Gen Cert.KernelIdeal.Value
open Idealize.ShloMosaic.TcCoe Idealize.ShloMosaic.Tactic

variable (m : (ℓ : Loc nD τ sig) → Buf (Elt Ideal) ℓ)

/-- The rows' window is at block `t` at point `t`. -/
theorem idx0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

/-- The gains' window stays at block 0. -/
theorem idx1 (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t

/-- The packed weights' window stays at block 0. -/
theorem idx2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t

/-- The weight scale's window stays at block 0. -/
theorem idx3 (t : Fin cfg0.N) : win0_3.index t (0 : Fin 1) = 0 :=
  (by decide +kernel : ∀ t : Fin grid0.N, win0_3.index t (0 : Fin 1) = 0) t

/-- Row `p` of block `t` of the rows is row `256 t + p` of the activations, counted over batch and position. -/
theorem blk0 (c : Dev nD) (t : Fin cfg0.N) (y : S256x2048.Idx) (j : S6x4096x2048.Idx)
    (h : 4096 * (j 0).val + (j 1).val = 256 * t.val + (y 0).val) (h2 : (j 2).val = (y 1).val) :
    iblk m c 0 t y = m ((c : Thread nD τ).loc main_arg0) j := by
  blk_simp [iblk, V, idx0 t]
  entry_read
  obtain ⟨e0, e1⟩ := idx0 t
  have hb0 : ((((View.whole main_v0).slice (win0_0.rect t)).emb y) 0).val = win0_0.index t (0 : Fin 2) * 256 + 1 * (y 0).val := rfl
  have hb1 : ((((View.whole main_v0).slice (win0_0.rect t)).emb y) 1).val = win0_0.index t (1 : Fin 2) * 2048 + 1 * (y 1).val := rfl
  refine shapeCast_apply (m (c, Proc.tc.devRef main_arg0)) shapeCasts_S6x4096x2048_S24576x2048 _ j ?_
  have er : (S6x4096x2048.rowMajor j).val = ((j 0).val * 4096 + (j 1).val) * 2048 + (j 2).val := Shape.rowMajor_val_three j
  refine er.trans ?_
  rw [Shape.rowMajor_val_two, hb0, hb1, e0, e1]
  show _ = (t.val * 256 + 1 * (y 0).val) * 2048 + (0 * 2048 + 1 * (y 1).val)
  omega

/-- The gains' block is the gains. -/
theorem blk1 (c : Dev nD) (t : Fin cfg0.N) (y : S2048x1.Idx) :
    iblk m c 1 t y = m ((c : Thread nD τ).loc main_arg1) (ix1 (y 0)) := by
  blk_ext! [iblk, V, idx1 t]

/-- The packed weights' block is the packed weights. -/
theorem blk2 (c : Dev nD) (t : Fin cfg0.N) :
    iblk m c 2 t = m ((c : Thread nD τ).loc main_arg2) := by
  blk_ext! [iblk, V, idx2 t]

/-- The weight scale's block is the weight scale. -/
theorem blk3 (c : Dev nD) (t : Fin cfg0.N) :
    iblk m c 3 t = m ((c : Thread nD τ).loc main_arg3) := by
  blk_ext! [iblk, V, idx3 t]

/-- The gains as a column. -/
def gcol (c : Dev nD) : Vec Ideal S2048x1 .f32 := fun y => m ((c : Thread nD τ).loc main_arg1) (ix1 (y 0))

/-- The packed weights. -/
def wpk (c : Dev nD) : Vec Ideal S512x1152 .i8 := m ((c : Thread nD τ).loc main_arg2)

/-- The weight scale. -/
def wsc (c : Dev nD) : Ideal .f32 := m ((c : Thread nD τ).loc main_arg3) (ix1 0)

/-- What a point leaves: its result, codes and scales, and the scratch as the first point filled it. -/
def left (c : Dev nD) (t : Fin cfg0.N) : Vec Ideal S256x1152 .bf16 × Vec Ideal S256x2048 .i8 × Vec Ideal S256x1 .f32 × Vec Ideal S8x768x256 .bf16 × Vec Ideal S2048x1152 .bf16 :=
  (YV (iblk m c 0 t) (HAD (gcol m c)) (WQ (wpk m c)) (wsc m c), CODEI (iblk m c 0 t) (HAD (gcol m c)), SC (iblk m c 0 t) (HAD (gcol m c)), HAD (gcol m c), WQ (wpk m c))

/-- The first point leaves what `left` states. -/
theorem step_A (c : Dev nD) (t : Fin cfg0.N) (h0 : t.val % 96 = 0) : outsAt0 m c t.val t.isLt = left m c t := by
  rw [outsAt0_A m c t h0, outA_4, outA_5, outA_6, sout_had, sout_w, show iblk m c 1 t = gcol m c from funext (blk1 m c t), blk2, blk3]
  rfl

/-- A later point leaves what `left` states, if the scratch is as the first point filled it. -/
theorem step_B (c : Dev nD) (t : Fin cfg0.N) (h0 : ¬ t.val % 96 = 0)
    (h : (outsAt0 m c (t.val - 1) (Nat.lt_of_le_of_lt (Nat.sub_le _ _) t.isLt)).2.2.2 = (HAD (gcol m c), WQ (wpk m c))) :
    outsAt0 m c t.val t.isLt = left m c t := by
  rw [outsAt0_B m c t h0, outB_4, outB_5, outB_6, h, blk3]
  rfl

/-- Every point leaves that. -/
theorem outs_eq (c : Dev nD) : ∀ (n : ℕ) (hn : n < cfg0.N), outsAt0 m c n hn = left m c ⟨n, hn⟩
  | 0, hn => step_A m c ⟨0, hn⟩ (Nat.zero_mod _)
  | n + 1, hn => by
      refine step_B m c ⟨n + 1, hn⟩ ?_ ?_
      · have : cfg0.N = 96 := N_0
        show ¬ (n + 1) % 96 = 0
        omega
      · show (outsAt0 m c n _).2.2.2 = _
        rw [outs_eq c n]
        rfl

/-- The result array, block by block. -/
theorem G4_eq (c : Dev nD) (t : Fin cfg0.N) (p : Fin 256) (n : Fin 1152) (i : S24576x1152.Idx) (h0 : (i 0).val = 256 * t.val + p.val) (h1 : (i 1).val = n.val) :
    G4 m c i = YV (iblk m c 0 t) (HAD (gcol m c)) (WQ (wpk m c)) (wsc m c) (ix2 p n) := by
  have hp : pt4Of i = t.val := by show 1 * ((i 0).val / 256 - 0) + 1 * ((i 1).val / 1152 - 0) = _; omega
  have hl : loc4Of i = ix2 p n := by
    funext a; apply Fin.ext
    match a with
    | ⟨0, _⟩ => show (i 0).val % 256 = p.val; omega
    | ⟨1, _⟩ => show (i 1).val % 1152 = n.val; omega
  have hq : pt4Of i < cfg0.N := by rw [hp]; exact t.isLt
  have ht : (⟨pt4Of i, hq⟩ : Fin cfg0.N) = t := Fin.ext hp
  unfold G4
  rw [dif_pos hq, hl, ← outsAt0_sweep m c _ hq, outs_eq, ht, left]

/-- The codes' array, block by block. -/
theorem G5_eq (c : Dev nD) (t : Fin cfg0.N) (p : Fin 256) (n : Fin 2048) (i : S24576x2048.Idx) (h0 : (i 0).val = 256 * t.val + p.val) (h1 : (i 1).val = n.val) :
    G5 m c i = CODEI (iblk m c 0 t) (HAD (gcol m c)) (ix2 p n) := by
  have hp : pt5Of i = t.val := by show 1 * ((i 0).val / 256 - 0) + 1 * ((i 1).val / 2048 - 0) = _; omega
  have hl : loc5Of i = ix2 p n := by
    funext a; apply Fin.ext
    match a with
    | ⟨0, _⟩ => show (i 0).val % 256 = p.val; omega
    | ⟨1, _⟩ => show (i 1).val % 2048 = n.val; omega
  have hq : pt5Of i < cfg0.N := by rw [hp]; exact t.isLt
  have ht : (⟨pt5Of i, hq⟩ : Fin cfg0.N) = t := Fin.ext hp
  unfold G5
  rw [dif_pos hq, hl, ← outsAt0_sweep m c _ hq, outs_eq, ht, left]

/-- The scales' array, block by block. -/
theorem G6_eq (c : Dev nD) (t : Fin cfg0.N) (p : Fin 256) (i : S24576x1.Idx) (h0 : (i 0).val = 256 * t.val + p.val) :
    G6 m c i = SC (iblk m c 0 t) (HAD (gcol m c)) (ix2 p 0) := by
  have h1 : (i 1).val < 1 := (i 1).isLt
  have hp : pt6Of i = t.val := by show 1 * ((i 0).val / 256 - 0) + 1 * ((i 1).val / 1 - 0) = _; omega
  have hl : loc6Of i = ix2 p 0 := by
    funext a; apply Fin.ext
    match a with
    | ⟨0, _⟩ => show (i 0).val % 256 = p.val; omega
    | ⟨1, _⟩ => show (i 1).val % 1 = 0; exact Nat.mod_one _
  have hq : pt6Of i < cfg0.N := by rw [hp]; exact t.isLt
  have ht : (⟨pt6Of i, hq⟩ : Fin cfg0.N) = t := Fin.ext hp
  unfold G6
  rw [dif_pos hq, hl, ← outsAt0_sweep m c _ hq, outs_eq, ht, left]

end Cert.Kern

end
-- ==== Proof.Butterfly.lean ====
module
public import proofs.«01_k».proof.Proof.Hadamard
public import proofs.«01_k».proof.Proof.Gen.ReferenceIdeal.Read
public import Idealize.ShloMosaic.Lib.Pointwise.Index

@[expose] public section

/-! # One stage of the reference's transform

The reference takes a stage of stride `m` by reshaping a row of 2048 to `B × 2 × m`, adding and subtracting the two halves, and
putting them back. Entry by entry that is the stage of `Cert.Had`. -/

set_option maxRecDepth 16384

noncomputable section

namespace Cert.Refr

open Cert.ReferenceIdeal Idealize.ShloMosaic Idealize.SL.Sem Cert.Had

/-- A row of a batch of rows. -/
def rowOf (v : S6x4096x2048.Idx → EReal) (b : Fin 6) (s : Fin 4096) : ℕ → EReal := fun j => if h : j < 2048 then v (ix3 b s ⟨j, h⟩) else 0

/-- Five coordinates. -/
def at5 {n0 n1 n2 n3 n4 : ℕ} (a : Fin n0) (b : Fin n1) (c : Fin n2) (d : Fin n3) (e : Fin n4) : (⟨5, ![n0, n1, n2, n3, n4]⟩ : Shape).Idx :=
  fun | ⟨0, _⟩ => a | ⟨1, _⟩ => b | ⟨2, _⟩ => c | ⟨3, _⟩ => d | ⟨4, _⟩ => e

/-- The batch of rows cut in blocks of `2 m`. -/
abbrev Cut (B m : ℕ) : Shape := ⟨5, ![6, 4096, B, 2, m]⟩
/-- One half of every block, the axis of the halves kept. -/
abbrev Half1 (B m : ℕ) : Shape := ⟨5, ![6, 4096, B, 1, m]⟩
/-- One half of every block. -/
abbrev Half (B m : ℕ) : Shape := ⟨4, ![6, 4096, B, m]⟩

variable {B m : ℕ}

/-- The entry of half `e` of block `q` at place `r` is the row's entry `(2 q + e) m + r`. -/
theorem half_apply (hB : B * (2 * m) = 2048) (v : FVec Ideal S6x4096x2048 .f32) (w1 : S6x4096x2048.ShapeCasts (Cut B m)) (e : ℕ)
    (he : e < 2) (sl : (Cut B m).Slices ![0, 0, 0, e, 0] (Half1 B m)) (w2 : (Half1 B m).ShapeCasts (Half B m))
    (b : Fin 6) (s : Fin 4096) (q : Fin B) (r : Fin m) :
    (shapeCast (Half B m) (extractStridedSlice (Half1 B m) ![0, 0, 0, e, 0] (shapeCast (Cut B m) v w1) sl) w2 : FVec Ideal (Half B m) .f32) (ix4 b s q r)
      = rowOf v b s ((2 * q.val + e) * m + r.val) := by
  have hlt : (2 * q.val + e) * m + r.val < 2048 := by
    have h1 := r.isLt
    have h2 : (2 * q.val + e + 1) * m ≤ (2 * B) * m := Nat.mul_le_mul_right m (by omega)
    have h3 : (2 * B) * m = 2048 := by rw [← hB]; ring
    have h4 : (2 * q.val + e + 1) * m = (2 * q.val + e) * m + m := by ring
    omega
  unfold rowOf
  rw [dif_pos hlt]
  refine (shapeCast_apply (s := Half1 B m) (t := Half B m) _ w2 (ix4 b s q r) (at5 b s q 0 r) ?_).trans ?_
  · rw [Shape.rowMajor_val_four, Shape.rowMajor_val_five]
    show (((b.val * 4096 + s.val) * B + q.val) * 1 + 0) * m + r.val = ((b.val * 4096 + s.val) * B + q.val) * m + r.val
    ring
  refine (extractStridedSlice_apply _ _ sl (at5 b s q 0 r) (at5 b s q ⟨e, he⟩ r) fun a => ?_).trans ?_
  · match a with
    | ⟨0, _⟩ => show b.val = 0 + b.val; omega
    | ⟨1, _⟩ => show s.val = 0 + s.val; omega
    | ⟨2, _⟩ => show q.val = 0 + q.val; omega
    | ⟨3, _⟩ => show e = e + 0; omega
    | ⟨4, _⟩ => show r.val = 0 + r.val; omega
  refine shapeCast_apply v w1 _ (ix3 b s ⟨_, hlt⟩) ?_
  rw [Shape.rowMajor_val_three, Shape.rowMajor_val_five]
  show (b.val * 4096 + s.val) * 2048 + ((2 * q.val + e) * m + r.val) = (((b.val * 4096 + s.val) * B + q.val) * 2 + e) * m + r.val
  rw [← hB]
  ring

/-- A half put back with its axis. -/
theorem keep_apply (bc : (Half B m).BroadcastsInDim (Half1 B m) (![0, 1, 2, 4] : Fin 4 → Fin 5)) (x : FVec Ideal (Half B m) .f32)
    (b : Fin 6) (s : Fin 4096) (q : Fin B) (r : Fin m) :
    (broadcastInDim (Half1 B m) ![0, 1, 2, 4] bc x : FVec Ideal (Half1 B m) .f32) (at5 b s q 0 r) = x (ix4 b s q r) := by
  refine broadcastInDim_apply (s := Half B m) (t := Half1 B m) _ bc x _ _ fun a => ?_
  match a with
  | ⟨0, _⟩ => show b.val = if (6 : ℕ) = 1 then 0 else b.val; rw [if_neg (by decide)]
  | ⟨1, _⟩ => show s.val = if (4096 : ℕ) = 1 then 0 else s.val; rw [if_neg (by decide)]
  | ⟨2, _⟩ => show q.val = if B = 1 then 0 else q.val; have := q.isLt; split <;> omega
  | ⟨3, _⟩ => show r.val = if m = 1 then 0 else r.val; have := r.isLt; split <;> omega

/-- THE STAGE. -/
theorem butterfly (hB : B * (2 * m) = 2048) (v : FVec Ideal S6x4096x2048 .f32) (w1 : S6x4096x2048.ShapeCasts (Cut B m))
    (s0 : (Cut B m).Slices ![0, 0, 0, 0, 0] (Half1 B m)) (s1 : (Cut B m).Slices ![0, 0, 0, 1, 0] (Half1 B m))
    (w2 : (Half1 B m).ShapeCasts (Half B m)) (bc : (Half B m).BroadcastsInDim (Half1 B m) (![0, 1, 2, 4] : Fin 4 → Fin 5))
    (cc : Shape.Concatenates [Half1 B m, Half1 B m] (Cut B m) 3) (w3 : (Cut B m).ShapeCasts S6x4096x2048)
    (lo hi : FVec Ideal (Half B m) .f32)
    (hlo : lo = shapeCast (Half B m) (extractStridedSlice (Half1 B m) ![0, 0, 0, 0, 0] (shapeCast (Cut B m) v w1) s0) w2)
    (hhi : hi = shapeCast (Half B m) (extractStridedSlice (Half1 B m) ![0, 0, 0, 1, 0] (shapeCast (Cut B m) v w1) s1) w2)
    (out : FVec Ideal S6x4096x2048 .f32)
    (hout : out = shapeCast S6x4096x2048 (concatenate (Cut B m) 3
        [⟨Half1 B m, (broadcastInDim (Half1 B m) ![0, 1, 2, 4] bc (addf lo hi) : FVec Ideal (Half1 B m) .f32)⟩,
         ⟨Half1 B m, (broadcastInDim (Half1 B m) ![0, 1, 2, 4] bc (subf lo hi) : FVec Ideal (Half1 B m) .f32)⟩] cc) w3)
    (b : Fin 6) (s : Fin 4096) (j : ℕ) (hj : j < 2048) : rowOf out b s j = stage m (rowOf v b s) j := by
  have hm : 0 < m := by rcases Nat.eq_zero_or_pos m with h | h; · subst h; simp at hB
                        · exact h
  have hq : j / m / 2 < B := by
    rw [Nat.div_div_eq_div_mul]
    exact (Nat.div_lt_iff_lt_mul (by omega)).mpr (by rw [Nat.mul_comm m 2]; omega)
  have hr : j % m < m := Nat.mod_lt _ hm
  have hjm : m * (j / m) + j % m = j := Nat.div_add_mod j m
  have h2 : 2 * (j / m / 2) + j / m % 2 = j / m := Nat.div_add_mod (j / m) 2
  have e1 : rowOf out b s j = out (ix3 b s ⟨j, hj⟩) := by unfold rowOf; rw [dif_pos hj]
  have hrow (e : ℕ) (he : e = j / m % 2) (he2 : e < 2) :
      ((Cut B m).rowMajor (at5 b s ⟨j / m / 2, hq⟩ ⟨e, he2⟩ ⟨j % m, hr⟩)).val = (S6x4096x2048.rowMajor (ix3 b s ⟨j, hj⟩)).val := by
    rw [Shape.rowMajor_val_three, Shape.rowMajor_val_five]
    show (((b.val * 4096 + s.val) * B + j / m / 2) * 2 + e) * m + j % m = (b.val * 4096 + s.val) * 2048 + j
    have : (((b.val * 4096 + s.val) * B + j / m / 2) * 2 + e) * m + j % m
        = (b.val * 4096 + s.val) * (B * (2 * m)) + (m * (2 * (j / m / 2) + e) + j % m) := by ring
    rw [this, hB, he, h2, hjm]
  have hl := half_apply hB v w1 0 (by decide) s0 w2 b s ⟨j / m / 2, hq⟩ ⟨j % m, hr⟩
  have hh := half_apply hB v w1 1 (by decide) s1 w2 b s ⟨j / m / 2, hq⟩ ⟨j % m, hr⟩
  rw [← hlo] at hl
  rw [← hhi] at hh
  dsimp only at hl hh
  unfold stage
  by_cases hc : j / m % 2 = 0
  · have p0 : (2 * (j / m / 2) + 0) * m + j % m = j := by rw [show 2 * (j / m / 2) + 0 = j / m by omega, Nat.mul_comm]; exact hjm
    have p1 : (2 * (j / m / 2) + 1) * m + j % m = j + m := by
      rw [show (2 * (j / m / 2) + 1) * m + j % m = (2 * (j / m / 2) + 0) * m + j % m + m by ring, p0]
    rw [p0] at hl
    rw [p1] at hh
    rw [if_pos hc, e1, hout, ← hl, ← hh]
    refine (shapeCast_apply (s := Cut B m) _ w3 _ (at5 b s ⟨j / m / 2, hq⟩ 0 ⟨j % m, hr⟩) (hrow 0 hc.symm (by decide))).trans ?_
    refine (concatenate_pair_apply_left (t := Cut B m) (s₁ := Half1 B m) (s₂ := Half1 B m) 3 _ _ cc _ rfl (at5 b s ⟨j / m / 2, hq⟩ 0 ⟨j % m, hr⟩) fun a => ?_).trans ?_
    · match a with
      | ⟨0, _⟩ => rfl
      | ⟨1, _⟩ => rfl
      | ⟨2, _⟩ => rfl
      | ⟨3, _⟩ => rfl
      | ⟨4, _⟩ => rfl
    exact keep_apply bc (addf lo hi) b s ⟨j / m / 2, hq⟩ ⟨j % m, hr⟩
  · have hc1 : j / m % 2 = 1 := by omega
    have p1 : (2 * (j / m / 2) + 1) * m + j % m = j := by rw [show 2 * (j / m / 2) + 1 = j / m by omega, Nat.mul_comm]; exact hjm
    have p0 : (2 * (j / m / 2) + 0) * m + j % m = j - m := by
      have : (2 * (j / m / 2) + 1) * m + j % m = (2 * (j / m / 2) + 0) * m + j % m + m := by ring
      omega
    rw [p0] at hl
    rw [p1] at hh
    rw [if_neg hc, e1, hout, ← hl, ← hh]
    refine (shapeCast_apply (s := Cut B m) _ w3 _ (at5 b s ⟨j / m / 2, hq⟩ 1 ⟨j % m, hr⟩) (hrow 1 hc1.symm (by decide))).trans ?_
    refine (concatenate_pair_apply_right (t := Cut B m) (s₁ := Half1 B m) (s₂ := Half1 B m) 3 _ _ cc _ rfl rfl (at5 b s ⟨j / m / 2, hq⟩ 0 ⟨j % m, hr⟩) (fun a ha => ?_) rfl).trans ?_
    · match a with
      | ⟨0, _⟩ => rfl
      | ⟨1, _⟩ => rfl
      | ⟨2, _⟩ => rfl
      | ⟨3, _⟩ => exact absurd rfl ha
      | ⟨4, _⟩ => rfl
    exact keep_apply bc (subf lo hi) b s ⟨j / m / 2, hq⟩ ⟨j % m, hr⟩

end Cert.Refr

end
-- ==== Proof.BlockRows.lean ====
module
public import proofs.«01_k».proof.Proof.Block
public import Idealize.ShloMosaic.Lib.MatmulPlain
public import Idealize.ShloMosaic.Lib.Pipeline.Value

@[expose] public section

/-! # A block read row by row

Each row of a block's scales, codes and result is the row's own scale, codes and product with the weights. -/

set_option maxRecDepth 16384

noncomputable section

namespace Cert.Kern

open Idealize.ShloMosaic Idealize.SL.Sem Cert.KernelIdeal Cert.KernelIdeal.Gen Cert.Had Cert.Rows

/-- Row `p` of a block. -/
def rowX (X : Vec Ideal S256x2048 .bf16) (p : Fin 256) : ℕ → EReal := fun j => if h : j < 2048 then X (ix2 p ⟨j, h⟩) else 0

/-! ## The constants -/

/-- The small number added to the mean square. -/
def epsR : ℝ := 10995116 / 2 ^ 40
/-- The transform's constant. -/
def cR : ℝ := 11863283 / 2 ^ 29

/-- The small number is positive. -/
theorem epsR_pos : 0 < epsR := by unfold epsR; positivity
/-- The transform's constant is positive. -/
theorem cR_pos : 0 < cR := by unfold cR; positivity

/-- The word of the small number denotes `epsR`. -/
theorem eps_val : (Scalar.ofBits .f32 0x3727C5AC#32 : Ideal .f32) = (epsR : EReal) := by
  show Ideal.ofBits .f32 0x3727C5AC#32 = _
  simp [Ideal.ofBits, Ideal.ieee, epsR, -EReal.coe_mul]
  norm_num
/-- The word of the transform's constant denotes `cR`. -/
theorem c_val : (Scalar.ofBits .f32 0x3CB504F3#32 : Ideal .f32) = (cR : EReal) := by
  show Ideal.ofBits .f32 0x3CB504F3#32 = _
  simp [Ideal.ofBits, Ideal.ieee, cR, -EReal.coe_mul]
  norm_num
/-- The word of 1/2048 denotes 1/2048. -/
theorem inv2048_val : (Scalar.ofBits .f32 0x3A000000#32 : Ideal .f32) = ((1 / 2048 : ℝ) : EReal) := by
  show Ideal.ofBits .f32 0x3A000000#32 = _
  simp [Ideal.ofBits, Ideal.ieee, -EReal.coe_mul]
  norm_num
/-- The word of 7 denotes 7. -/
theorem seven_val : (Scalar.ofBits .f32 0x40E00000#32 : Ideal .f32) = ((7 : ℝ) : EReal) := by
  show Ideal.ofBits .f32 0x40E00000#32 = _
  simp [Ideal.ofBits, Ideal.ieee, -EReal.coe_mul]
  norm_num
/-- The word of −7 denotes −7. -/
theorem negseven_val : (Scalar.ofBits .f32 0xC0E00000#32 : Ideal .f32) = ((-7 : ℝ) : EReal) := by
  show Ideal.ofBits .f32 0xC0E00000#32 = _
  simp [Ideal.ofBits, Ideal.ieee, -EReal.coe_mul]
  norm_num
/-- The word of 0 denotes 0. -/
theorem zero_val : (Scalar.ofBits .f32 0x00000000#32 : Ideal .f32) = 0 := by
  show Ideal.ofBits .f32 0x00000000#32 = _
  simp [Ideal.ofBits, Ideal.ieee, -EReal.coe_mul]
/-- The word of −∞ denotes −∞. -/
theorem bot_val : (FloatOps.ofBits .f32 0xFF800000#32 : Ideal .f32) = (⊥ : EReal) := by
  show Ideal.ofBits .f32 0xFF800000#32 = _
  simp [Ideal.ofBits, Ideal.ieee, -EReal.coe_mul]

/-! ## The transform -/

/-- Group `g` of a block holds columns `256 g` to `256 g + 255` of it. -/
theorem groupX_apply (X : Vec Ideal S256x2048 .bf16) (g : Fin 8) (p b : Fin 256) :
    groupX X g (ix2 p b) = rowX X p (256 * g.val + b.val) := by
  have hlt : 256 * g.val + b.val < 2048 := by omega
  unfold groupX rowX
  rw [shapeCast_self, dif_pos hlt]
  refine extractStridedSlice_apply _ _ _ _ _ fun a => ?_
  match a with
  | ⟨0, _⟩ => show p.val = 0 + p.val; omega
  | ⟨1, _⟩ => rfl

/-- The group laid three times side by side, read at a column. -/
theorem three_apply (v : FVec Ideal S256x256 .bf16) (p : Fin 256) (k : Fin 768) :
    three v (ix2 p k) = v (ix2 p ⟨k.val % 256, Nat.mod_lt _ (by decide)⟩) := by
  refine concatenate_replicate_apply (t := S256x768) (s₁ := S256x256) (1 : Fin 2) 3 v concatenates_S256x256_S256x256_S256x256_S256x768_d1 rfl (ix2 p k) _ rfl fun b hb => ?_
  match b with
  | ⟨0, _⟩ => rfl
  | ⟨1, _⟩ => exact absurd rfl hb

/-- A prepared matrix, entry by entry. -/
theorem groupH_apply (x1 : Vec Ideal S2048x1 .f32) (g : Fin 8) (k : Fin 768) (b : Fin 256) :
    groupH (HAD x1) g (ix2 k b) = hadE (gainOf x1) g.val k.val b.val := by
  unfold groupH
  have e : shapeCast S768x256 (View.ld (HAD x1) (Rect.unit (s := S8x768x256) ![g.val, 0, 0] S1x768x256.size (inb_group g))) shapeCasts_S1x768x256_S768x256 (ix2 k b)
      = View.ld (HAD x1) (Rect.unit (s := S8x768x256) ![g.val, 0, 0] S1x768x256.size (inb_group g)) (ix3 (0 : Fin 1) k b) := by
    refine shapeCast_apply (s := S1x768x256) _ _ _ _ ?_
    rw [Shape.rowMajor_val_two, Shape.rowMajor_val_three]
    show (0 * 768 + k.val) * 256 + b.val = k.val * 256 + b.val
    omega
  rw [e]
  show hadE (gainOf x1) (g.val + 1 * 0) (0 + 1 * k.val) (0 + 1 * b.val) = _
  simp only [Nat.mul_zero, Nat.add_zero, Nat.zero_add, Nat.one_mul]

/-- The product of a group with its prepared matrix is `dotK` of the row. -/
theorem dotV_apply (X : Vec Ideal S256x2048 .bf16) (x1 : Vec Ideal S2048x1 .f32) (g : Fin 8) (p b : Fin 256) :
    dotV X (HAD x1) g (ix2 p b) = dotK (rowX X p) (gainOf x1) b.val g.val := by
  unfold dotV dotK
  refine (Ideal.matmul_plain_apply none (three (groupX X g)) (groupH (HAD x1) g) (constant S256x256 .f32 0x00000000#32) p b).trans ?_
  have hz : constant (F := Ideal) S256x256 .f32 0x00000000#32 (ix2 p b) = (0 : EReal) := zero_val
  show constant (F := Ideal) S256x256 .f32 0x00000000#32 (ix2 p b) + ∑ k : Fin 768, three (groupX X g) (ix2 p k) * groupH (HAD x1) g (ix2 k b) = _
  rw [hz, zero_add, Finset.sum_range]
  refine Finset.sum_congr rfl fun k _ => ?_
  rw [three_apply, groupX_apply, groupH_apply]

/-- A stage over blocks is the stage of the entries. -/
theorem vstage_apply (m : ℕ) (f : ℕ → FVec Ideal S256x256 .f32) (i : ℕ) (y : S256x256.Idx) :
    vstage m f i y = stage (α := EReal) m (fun n => f n y) i := by
  unfold vstage stage
  split <;> rfl

/-- The transform of a block is the kernel's transform of its rows. -/
theorem hv_apply (X : Vec Ideal S256x2048 .bf16) (x1 : Vec Ideal S2048x1 .f32) (g : ℕ) (hg : g < 8) (p b : Fin 256) :
    hv X (HAD x1) g (ix2 p b) = hK (rowX X p) (gainOf x1) (256 * g + b.val) := by
  have e : hv X (HAD x1) g (ix2 p b) = high3 (fun n => (dotV X (HAD x1) (Fin.ofNat 8 n) (ix2 p b) : EReal)) g := by
    unfold hv two high3
    rw [vstage_apply]
    congr 1; funext n
    rw [vstage_apply]
    congr 1; funext n
    rw [vstage_apply]
  rw [e]
  unfold hK
  have hb := b.isLt
  rw [show (256 * g + b.val) % 256 = b.val by omega, show (256 * g + b.val) / 256 = g by omega]
  refine high3_congr (fun n hn => ?_) g hg
  rw [dotV_apply]
  show dotK _ _ _ (n % 8) = _
  rw [Nat.mod_eq_of_lt hn]

/-! ## The scales -/

/-- A vector made a column holds the same entries. -/
theorem col_apply (v : FVec Ideal S256 .f32) (p : Fin 256) : shapeCast S256x1 v shapeCasts_S256_S256x1 (ix2 p 0) = v (ix1 p) := by
  refine shapeCast_apply v _ _ _ ?_
  rw [Shape.rowMajor_val_two, Shape.rowMajor_val_one]
  show p.val = p.val * 1 + 0
  omega

/-- A sum along the rows of a matrix of 2048 columns. -/
theorem sumV_apply (v : FVec Ideal S256x2048 .f32) (hφ : FKind.Formats .f32) (hacc : (0x00000000#32 : BitVec 32) = FKind.add.neutral .f32 hφ) (p : Fin 256) :
    multiReduction (F := Ideal) .add [1] S256 v 0x00000000#32 reduces_S256x2048_S256 hφ hacc (ix1 p) = ∑ k : Fin 2048, v (ix2 p k) := by
  refine (Ideal.multiReduction_add_single (s := S256x2048) (t := S256) (a := (1 : Fin 2)) v _ reduces_S256x2048_S256 hφ hacc (ix1 p)).trans ?_
  refine Finset.sum_congr rfl fun k _ => congrArg v ?_
  funext a
  match a with
  | ⟨0, _⟩ => rfl
  | ⟨1, _⟩ => rfl

/-- A maximum along the rows of a matrix of 256 columns. -/
theorem maxV_apply (v : FVec Ideal S256x256 .f32) (hφ : FKind.Formats .f32) (hacc : (0xFF800000#32 : BitVec 32) = FKind.maximumf.neutral .f32 hφ) (p : Fin 256) :
    multiReduction (F := Ideal) .maximumf [1] S256 v 0xFF800000#32 reduces_S256x256_S256 hφ hacc (ix1 p)
      = (Finset.univ : Finset (Fin 256)).fold max (⊥ : EReal) fun k => v (ix2 p k) := by
  refine (Ideal.multiReduction_maximumf_single (s := S256x256) (t := S256) (a := (1 : Fin 2)) v _ reduces_S256x256_S256 hφ hacc (ix1 p)).trans ?_
  rw [bot_val]
  refine Finset.fold_congr fun k _ => congrArg v ?_
  funext a
  match a with
  | ⟨0, _⟩ => rfl
  | ⟨1, _⟩ => rfl

/-- The block read as f32 is the block. -/
theorem rows_apply (X : Vec Ideal S256x2048 .bf16) (p : Fin 256) (k : Fin 2048) : k0_pay164 X (ix2 p k) = rowX X p k.val := by
  unfold k0_pay164 rowX
  rw [shapeCast_self, dif_pos k.isLt]

/-- The row factor of a column of sums of squares. -/
theorem rcV_apply (v : FVec Ideal S256x1 .f32) (i : S256x1.Idx) :
    mulf (rsqrt (addf (mulf v (broadcast S256x1 (Scalar.ofBits .f32 0x3A000000#32))) (broadcast S256x1 (Scalar.ofBits .f32 0x3727C5AC#32))))
      (broadcast S256x1 (Scalar.ofBits .f32 0x3CB504F3#32)) i = Ideal.rsqrt (v i * ((1 / 2048 : ℝ) : EReal) + (epsR : EReal)) * (cR : EReal) := by
  rw [← eps_val, ← c_val, ← inv2048_val]
  rfl

/-- The row factor is `rcK` of the row. -/
theorem rc_apply (X : Vec Ideal S256x2048 .bf16) (p : Fin 256) : k0_pay165 X (ix2 p 0) = rcK epsR cR (rowX X p) := by
  unfold k0_pay165
  refine (rcV_apply _ _).trans ?_
  unfold rcK
  refine congrArg (fun z => Ideal.rsqrt (z * ((1 / 2048 : ℝ) : EReal) + (epsR : EReal)) * (cR : EReal)) ?_
  refine (col_apply _ p).trans ((sumV_apply _ _ _ p).trans ?_)
  unfold sumsq
  rw [Finset.sum_range]
  refine Finset.sum_congr rfl fun k _ => ?_
  rw [← rows_apply]
  rfl

/-- The largest of eight groups' entries at one lane. -/
theorem max8 (f : ℕ → EReal) (z : EReal) :
    max (max (max (max (max (max (max (f 0) (f 1)) (f 2)) (f 3)) (f 4)) (f 5)) (f 6)) (f 7) ≤ z ↔ ∀ g, g < 8 → f g ≤ z := by
  simp only [max_le_iff]
  constructor
  · rintro ⟨⟨⟨⟨⟨⟨⟨h0, h1⟩, h2⟩, h3⟩, h4⟩, h5⟩, h6⟩, h7⟩ g hg
    interval_cases g <;> assumption
  · intro h
    exact ⟨⟨⟨⟨⟨⟨⟨h 0 (by decide), h 1 (by decide)⟩, h 2 (by decide)⟩, h 3 (by decide)⟩, h 4 (by decide)⟩, h 5 (by decide)⟩, h 6 (by decide)⟩, h 7 (by decide)⟩

/-- The largest over the lanes of the largest over the groups is the largest over the row. -/
theorem fold_max (f : ℕ → EReal) (v : Fin 256 → EReal)
    (hv : ∀ b : Fin 256, ∀ z, v b ≤ z ↔ ∀ g, g < 8 → f (256 * g + b.val) ≤ z) :
    (Finset.univ : Finset (Fin 256)).fold max (⊥ : EReal) v = rowMax f := by
  refine le_antisymm ?_ ?_
  · rw [Finset.fold_max_le]
    refine ⟨bot_le, fun b _ => (hv b _).mpr fun g hg => ?_⟩
    exact Finset.le_sup (f := f) (Finset.mem_range.mpr (by omega))
  · refine Finset.sup_le fun o ho => ?_
    have ho := Finset.mem_range.mp ho
    have h1 := (hv ⟨o % 256, Nat.mod_lt _ (by decide)⟩ _).mp le_rfl (o / 256) (by omega)
    rw [show 256 * (o / 256) + o % 256 = o by omega] at h1
    exact h1.trans ((Finset.le_fold_max _).mpr (Or.inr ⟨_, Finset.mem_univ _, le_rfl⟩))

/-- The largest magnitude over the eight groups, lane by lane. -/
def max8V (X : Vec Ideal S256x2048 .bf16) (H : Vec Ideal S8x768x256 .bf16) : FVec Ideal S256x256 .f32 :=
  maximumf (maximumf (maximumf (maximumf (maximumf (maximumf (maximumf (absf (hv X H 0)) (absf (hv X H 1))) (absf (hv X H 2)))
    (absf (hv X H 3))) (absf (hv X H 4))) (absf (hv X H 5))) (absf (hv X H 6))) (absf (hv X H 7))

/-- The scale of a largest magnitude, as the kernel selects it. -/
theorem scale_sel (v : FVec Ideal S256x1 .f32) (i : S256x1.Idx) :
    select (cmpf .oeq v (broadcast S256x1 (Scalar.ofBits .f32 0x00000000#32))) (broadcast S256x1 (Scalar.ofBits .f32 0x3F800000#32))
      (divf v (broadcast S256x1 (Scalar.ofBits .f32 0x40E00000#32))) i = scaleOf (v i) := by
  have e : select (cmpf .oeq v (broadcast S256x1 (Scalar.ofBits .f32 0x00000000#32))) (broadcast S256x1 (Scalar.ofBits .f32 0x3F800000#32))
      (divf v (broadcast S256x1 (Scalar.ofBits .f32 0x40E00000#32))) i
      = if BitVec.ofBool (decide (v i = (Scalar.ofBits .f32 0x00000000#32 : Ideal .f32))) = 1#1 then (Scalar.ofBits .f32 0x3F800000#32 : Ideal .f32)
        else Ideal.div (v i) (Scalar.ofBits .f32 0x40E00000#32 : Ideal .f32) := rfl
  rw [e, zero_val, one_val, seven_val, scaleOf]
  by_cases h : v i = 0
  · simp [h]
  · simp [h]

/-- A block's scales are the rows' scales. -/
theorem SC_apply (X : Vec Ideal S256x2048 .bf16) (x1 : Vec Ideal S2048x1 .f32) (p : Fin 256) :
    SC X (HAD x1) (ix2 p 0) = scaleK epsR cR (rowX X p) (gainOf x1) := by
  have h6 : k0_pay198 (two X (HAD x1) 6) (two X (HAD x1) 7) = hv X (HAD x1) 6 := rfl
  have h7 : k0_pay199 (two X (HAD x1) 6) (two X (HAD x1) 7) = hv X (HAD x1) 7 := rfl
  unfold SC k0_pay200
  dsimp only
  rw [h6, h7]
  have hm : ∀ v : FVec Ideal S256x256 .f32, (∀ b : Fin 256, ∀ z : EReal, v (ix2 p b) ≤ z ↔ ∀ g, g < 8 → ab (hK (rowX X p) (gainOf x1) (256 * g + b.val)) ≤ z) →
      shapeCast S256x1 (multiReduction (F := Ideal) .maximumf [1] S256 v 0xFF800000#32 reduces_S256x256_S256 (.inl rfl) rfl) shapeCasts_S256_S256x1 (ix2 p 0)
        = rowMax (fun o => ab (hK (rowX X p) (gainOf x1) o)) := by
    intro v h
    exact (col_apply _ p).trans ((maxV_apply v _ _ p).trans (fold_max (fun o => ab (hK (rowX X p) (gainOf x1) o)) _ h))
  have hmax := hm (max8V X (HAD x1)) (fun b z => by
    refine Iff.trans (max8 (fun g => ab (hv X (HAD x1) g (ix2 p b))) z) ?_
    refine forall_congr' fun g => forall_congr' fun hg => ?_
    rw [hv_apply X x1 g hg])
  unfold scaleK
  rw [← hmax, ← rc_apply]
  exact scale_sel _ _

/-! ## The codes -/

/-- The codes of a block of a group, entry by entry. -/
theorem clipV_apply (h q : FVec Ideal S256x256 .f32) (i : S256x256.Idx) :
    minimumf (broadcast S256x256 (Scalar.ofBits .f32 0x40E00000#32))
      (maximumf (broadcast S256x256 (Scalar.ofBits .f32 0xC0E00000#32)) (roundeven (mulf h q))) i = clip (rnd (h i * q i)) := by
  unfold clip
  rw [← seven_val, ← negseven_val]
  rfl

/-- A quotient of columns, entry by entry. -/
theorem divV_apply (a b : FVec Ideal S256x1 .f32) (i : S256x1.Idx) : divf a b i = Ideal.div (a i) (b i) := rfl

/-- The quotient of the row factor by the scale, entry by entry. -/
theorem QV_apply (X : Vec Ideal S256x2048 .bf16) (H : Vec Ideal S8x768x256 .bf16) (i : S256x1.Idx) :
    QV X H i = Ideal.div (k0_pay165 X i) (SC X H i) := by
  unfold QV
  exact divV_apply _ _ _

/-- A block's codes are the rows' codes. -/
theorem CODE_apply (X : Vec Ideal S256x2048 .bf16) (x1 : Vec Ideal S2048x1 .f32) (p : Fin 256) (o : Fin 2048) :
    CODE X (HAD x1) (ix2 p o) = codeK epsR cR (rowX X p) (gainOf x1) o.val := by
  have ho := o.isLt
  have hq : broadcastTo S256x256 (QV X (HAD x1)) broadcasts_S256x1_S256x256 (ix2 p ⟨o.val % 256, Nat.mod_lt _ (by decide)⟩) = QV X (HAD x1) (ix2 p 0) := by
    refine broadcastTo_apply _ _ _ _ fun a => ?_
    match a with
    | ⟨0, _⟩ => rfl
    | ⟨1, _⟩ => rfl
  have hh := hv_apply X x1 (o.val / 256) (by omega) p ⟨o.val % 256, Nat.mod_lt _ (by decide)⟩
  rw [show 256 * (o.val / 256) + (⟨o.val % 256, Nat.mod_lt _ (by decide)⟩ : Fin 256).val = o.val from by show 256 * (o.val / 256) + o.val % 256 = o.val; omega] at hh
  unfold codeK
  rw [← hh, ← SC_apply, ← rc_apply]
  show codeV X (HAD x1) (Fin.ofNat 8 (o.val / 256)) (ix2 p ⟨o.val % 256, Nat.mod_lt _ (by decide)⟩) = _
  rw [show Fin.ofNat 8 (o.val / 256) = ⟨o.val / 256, by omega⟩ from Fin.ext (Nat.mod_eq_of_lt (by omega))]
  unfold codeV
  refine (clipV_apply _ _ _).trans ?_
  rw [hq, QV_apply]

/-! ## The result -/

/-- A product of blocks rounded to bf16 is the product: rounding is exact here. -/
theorem scaled_apply (a b : FVec Ideal S256x1152 .f32) (i : S256x1152.Idx) : truncf .bf16 (mulf a b) bitsLt_bf16_f32 i = a i * b i := rfl

/-- A block's result: the codes' product with the weights, times the scale of the row and the scale of the weights. -/
theorem YV_apply (X : Vec Ideal S256x2048 .bf16) (x1 : Vec Ideal S2048x1 .f32) (W : Vec Ideal S2048x1152 .bf16) (ws : Elt Ideal .f32) (p : Fin 256) (n : Fin 1152) :
    YV X (HAD x1) W ws (ix2 p n)
      = (∑ k : Fin 2048, codeK epsR cR (rowX X p) (gainOf x1) k.val * W (ix2 k n)) * (scaleK epsR cR (rowX X p) (gainOf x1) * ws) := by
  have hm : matmul (F := Ideal) (φ₁ := .bf16) (φ₂ := .bf16) dot_S256x2048_S2048x1152_S256x1152_1_0_0_1_n_n none (CODE X (HAD x1)) W (constant S256x1152 .f32 0x00000000#32) (ix2 p n)
      = ∑ k : Fin 2048, codeK epsR cR (rowX X p) (gainOf x1) k.val * W (ix2 k n) := by
    refine (Ideal.matmul_plain_apply none (CODE X (HAD x1)) W (constant S256x1152 .f32 0x00000000#32) p n).trans ?_
    have hz : constant (F := Ideal) S256x1152 .f32 0x00000000#32 (ix2 p n) = (0 : EReal) := zero_val
    show constant (F := Ideal) S256x1152 .f32 0x00000000#32 (ix2 p n) + ∑ k : Fin 2048, CODE X (HAD x1) (ix2 p k) * W (ix2 k n) = _
    rw [hz, zero_add]
    refine Finset.sum_congr rfl fun k _ => ?_
    rw [CODE_apply]
  have hb : broadcastTo S256x1152 (mulf (SC X (HAD x1)) (broadcast S256x1 ws)) broadcasts_S256x1_S256x1152 (ix2 p n) = mulf (SC X (HAD x1)) (broadcast S256x1 ws) (ix2 p 0) := by
    refine broadcastTo_apply _ _ _ _ fun a => ?_
    match a with
    | ⟨0, _⟩ => rfl
    | ⟨1, _⟩ => rfl
  rw [← hm, ← SC_apply]
  unfold YV k0_pay4
  refine (scaled_apply _ _ _).trans ?_
  exact congrArg (matmul (F := Ideal) (φ₁ := .bf16) (φ₂ := .bf16) dot_S256x2048_S2048x1152_S256x1152_1_0_0_1_n_n none (CODE X (HAD x1)) W (constant S256x1152 .f32 0x00000000#32) (ix2 p n) * ·) hb

end Cert.Kern

end
-- ==== Proof.Reference.lean ====
module

public import proofs.«01_k».proof.Proof.Butterfly
public import proofs.«01_k».proof.Proof.BlockRows
public import Idealize.ShloMosaic.Lib.KernelVsHost

@[expose] public section

/-! # The reference read row by row

Each token's row of the reference's transform, scales and codes is `hR`, `scaleR` and `codeR` of the token's row of the input. -/

set_option maxRecDepth 16384

noncomputable section

namespace Cert.Refr

open Cert.ReferenceIdeal Cert.ReferenceIdeal.Gen Cert.ReferenceIdeal.Read Idealize.ShloMosaic Idealize.SL.Sem Cert.Had Cert.Rows
open Cert.Kern (epsR cR eps_val c_val seven_val negseven_val zero_val bot_val one_val)

/-- The activations. -/
abbrev Acts : Type := (⟨S6x4096x2048, .bf16⟩ : BufTy).Contents (Elt Ideal)
/-- The gains. -/
abbrev Gains : Type := (⟨S2048, .f32⟩ : BufTy).Contents (Elt Ideal)

/-- The gains, counted by a natural number. -/
def gnOf (x1 : Gains) : ℕ → EReal := fun j => if h : j < 2048 then x1 (ix1 ⟨j, h⟩) else 0

/-- A row at a channel is the entry. -/
theorem rowOf_val (v : S6x4096x2048.Idx → EReal) (b : Fin 6) (s : Fin 4096) (j : Fin 2048) : rowOf v b s j.val = v (ix3 b s j) := by
  unfold rowOf
  rw [dif_pos j.isLt]

/-- The word of 2048 denotes 2048. -/
theorem c2048_val : (FloatOps.ofBits .f32 0x45000000#32 : Ideal .f32) = ((2048 : ℝ) : EReal) := by
  show Ideal.ofBits .f32 0x45000000#32 = _
  simp [Ideal.ofBits, Ideal.ieee, -EReal.coe_mul]
  norm_num

/-! ## The normalised row -/

/-- The sum of squares of a token is its row's. -/
theorem sum_apply (x0 : Acts) (b : Fin 6) (s : Fin 4096) :
    val_main_v2 x0 (ix2 b s) = sumsq (rowOf x0 b s) := by
  rw [val_main_v2_apply]
  have hz : val_main_cst (F := Ideal) (Shape.Idx.first h_S_) = (0 : EReal) := zero_val
  rw [hz, zero_add]
  unfold sumsq
  rw [Finset.sum_range]
  refine Finset.sum_congr rfl fun k _ => ?_
  rw [rowOf_val]
  have e : idx_main_v2 (ix2 b s) k = ix3 b s k := by
    funext a
    match a with
    | ⟨0, _⟩ => rfl
    | ⟨1, _⟩ => rfl
    | ⟨2, _⟩ => rfl
  rw [e]
  rfl

/-- A token's reciprocal norm is `rR` of its row. -/
theorem rsqrt_apply (x0 : Acts) (b : Fin 6) (s : Fin 4096) :
    val_main_v8 x0 (ix3 b s 0) = rR epsR (rowOf x0 b s) := by
  have e : idx_main_v3 (ix3 b s 0) = ix2 b s := by
    funext a
    match a with
    | ⟨0, _⟩ => rfl
    | ⟨1, _⟩ => rfl
  rw [val_main_v8_apply, val_main_v7_apply, val_main_v5_apply, val_main_v3_apply, e, sum_apply, val_main_v4_apply, val_main_v6_apply,
    val_main_cst_0_apply, val_main_cst_1_apply, c2048_val]
  unfold rR
  rw [← eps_val]
  rfl

/-- The normalised token is `nR` of its row. -/
theorem norm_apply (x0 : Acts) (x1 : Gains) (b : Fin 6) (s : Fin 4096) (j : ℕ) (hj : j < 2048) :
    rowOf (val_main_v13 x0 x1) b s j = nR epsR (rowOf x0 b s) (gnOf x1) j := by
  have e9 : idx_main_v9 (ix3 b s ⟨j, hj⟩) = ix3 b s 0 := by
    funext a
    match a with
    | ⟨0, _⟩ => rfl
    | ⟨1, _⟩ => rfl
    | ⟨2, _⟩ => rfl
  have e11 : idx_main_v11 (idx_main_v12 (ix3 b s ⟨j, hj⟩)) = ix1 ⟨j, hj⟩ := by
    funext a
    match a with
    | ⟨0, _⟩ => rfl
  have h := rowOf_val (val_main_v13 x0 x1) b s ⟨j, hj⟩
  refine h.trans ?_
  rw [val_main_v13_apply, val_main_v10_apply, val_main_v9_apply, e9, rsqrt_apply, val_main_v12_apply, val_main_v11_apply, e11]
  unfold nR gnOf
  rw [dif_pos hj, rowOf_val x0 b s ⟨j, hj⟩]
  rfl

/-! ## The transform -/

/-- The eleven stages, one after another. -/
theorem stages (x0 : Acts) (x1 : Gains) (b : Fin 6) (s : Fin 4096) (j : ℕ) (hj : j < 2048) :
    rowOf (val_main_v134 x0 x1) b s j = fwht (rowOf (val_main_v13 x0 x1) b s) j := by
  have h1024 : ∀ j, j < 2048 → rowOf (val_main_v24 x0 x1) b s j = stage 1024 (rowOf (val_main_v13 x0 x1) b s) j := fun j hj =>
    butterfly (B := 1) (m := 1024) rfl (val_main_v13 x0 x1) _ _ _ _ _ _ _ (val_main_v16 x0 x1) (val_main_v18 x0 x1) rfl rfl
      (val_main_v24 x0 x1) rfl b s j hj
  have h512 : ∀ j, j < 2048 → rowOf (val_main_v35 x0 x1) b s j = stage 512 (rowOf (val_main_v24 x0 x1) b s) j := fun j hj =>
    butterfly (B := 2) (m := 512) rfl (val_main_v24 x0 x1) _ _ _ _ _ _ _ (val_main_v27 x0 x1) (val_main_v29 x0 x1) rfl rfl
      (val_main_v35 x0 x1) rfl b s j hj
  have h256 : ∀ j, j < 2048 → rowOf (val_main_v46 x0 x1) b s j = stage 256 (rowOf (val_main_v35 x0 x1) b s) j := fun j hj =>
    butterfly (B := 4) (m := 256) rfl (val_main_v35 x0 x1) _ _ _ _ _ _ _ (val_main_v38 x0 x1) (val_main_v40 x0 x1) rfl rfl
      (val_main_v46 x0 x1) rfl b s j hj
  have h128 : ∀ j, j < 2048 → rowOf (val_main_v57 x0 x1) b s j = stage 128 (rowOf (val_main_v46 x0 x1) b s) j := fun j hj =>
    butterfly (B := 8) (m := 128) rfl (val_main_v46 x0 x1) _ _ _ _ _ _ _ (val_main_v49 x0 x1) (val_main_v51 x0 x1) rfl rfl
      (val_main_v57 x0 x1) rfl b s j hj
  have h64 : ∀ j, j < 2048 → rowOf (val_main_v68 x0 x1) b s j = stage 64 (rowOf (val_main_v57 x0 x1) b s) j := fun j hj =>
    butterfly (B := 16) (m := 64) rfl (val_main_v57 x0 x1) _ _ _ _ _ _ _ (val_main_v60 x0 x1) (val_main_v62 x0 x1) rfl rfl
      (val_main_v68 x0 x1) rfl b s j hj
  have h32 : ∀ j, j < 2048 → rowOf (val_main_v79 x0 x1) b s j = stage 32 (rowOf (val_main_v68 x0 x1) b s) j := fun j hj =>
    butterfly (B := 32) (m := 32) rfl (val_main_v68 x0 x1) _ _ _ _ _ _ _ (val_main_v71 x0 x1) (val_main_v73 x0 x1) rfl rfl
      (val_main_v79 x0 x1) rfl b s j hj
  have h16 : ∀ j, j < 2048 → rowOf (val_main_v90 x0 x1) b s j = stage 16 (rowOf (val_main_v79 x0 x1) b s) j := fun j hj =>
    butterfly (B := 64) (m := 16) rfl (val_main_v79 x0 x1) _ _ _ _ _ _ _ (val_main_v82 x0 x1) (val_main_v84 x0 x1) rfl rfl
      (val_main_v90 x0 x1) rfl b s j hj
  have h8 : ∀ j, j < 2048 → rowOf (val_main_v101 x0 x1) b s j = stage 8 (rowOf (val_main_v90 x0 x1) b s) j := fun j hj =>
    butterfly (B := 128) (m := 8) rfl (val_main_v90 x0 x1) _ _ _ _ _ _ _ (val_main_v93 x0 x1) (val_main_v95 x0 x1) rfl rfl
      (val_main_v101 x0 x1) rfl b s j hj
  have h4 : ∀ j, j < 2048 → rowOf (val_main_v112 x0 x1) b s j = stage 4 (rowOf (val_main_v101 x0 x1) b s) j := fun j hj =>
    butterfly (B := 256) (m := 4) rfl (val_main_v101 x0 x1) _ _ _ _ _ _ _ (val_main_v104 x0 x1) (val_main_v106 x0 x1) rfl rfl
      (val_main_v112 x0 x1) rfl b s j hj
  have h2 : ∀ j, j < 2048 → rowOf (val_main_v123 x0 x1) b s j = stage 2 (rowOf (val_main_v112 x0 x1) b s) j := fun j hj =>
    butterfly (B := 512) (m := 2) rfl (val_main_v112 x0 x1) _ _ _ _ _ _ _ (val_main_v115 x0 x1) (val_main_v117 x0 x1) rfl rfl
      (val_main_v123 x0 x1) rfl b s j hj
  have h1 : ∀ j, j < 2048 → rowOf (val_main_v134 x0 x1) b s j = stage 1 (rowOf (val_main_v123 x0 x1) b s) j := fun j hj =>
    butterfly (B := 1024) (m := 1) rfl (val_main_v123 x0 x1) _ _ _ _ _ _ _ (val_main_v126 x0 x1) (val_main_v128 x0 x1) rfl rfl
      (val_main_v134 x0 x1) rfl b s j hj
  have c (m : ℕ) (hm : 0 < m) (hn : 2 * m ∣ 2048) {u f g : ℕ → EReal} (hu : ∀ i, i < 2048 → u i = stage m f i) (h : ∀ i, i < 2048 → f i = g i) :
      ∀ i, i < 2048 → u i = stage m g i := fun i hi => (hu i hi).trans (stage_congr hm hn h i hi)
  unfold fwht
  exact (c 1 (by decide) (by decide) h1 (c 2 (by decide) (by decide) h2 (c 4 (by decide) (by decide) h4 (c 8 (by decide) (by decide) h8 (c 16 (by decide) (by decide) h16 (c 32 (by decide) (by decide) h32 (c 64 (by decide) (by decide) h64 (c 128 (by decide) (by decide) h128 (c 256 (by decide) (by decide) h256 (c 512 (by decide) (by decide) h512 h1024)))))))))) j hj

/-- A token's transform is `hR` of its row. -/
theorem h_apply (x0 : Acts) (x1 : Gains) (b : Fin 6) (s : Fin 4096) (j : Fin 2048) :
    val_main_v136 x0 x1 (ix3 b s j) = hR epsR cR (rowOf x0 b s) (gnOf x1) j.val := by
  rw [val_main_v136_apply, val_main_v135_apply, ← rowOf_val (val_main_v134 x0 x1), stages x0 x1 b s j.val j.isLt,
    fwht_congr (fun i hi => norm_apply x0 x1 b s i hi) j.val j.isLt]
  unfold hR
  rw [← c_val]
  rfl

/-! ## The scales -/

/-- A maximum along the rows of the reference's array. -/
theorem hostMax_apply (v : FVec Ideal S6x4096x2048 .f32) (b : Fin 6) (s : Fin 4096) :
    Host.reduce FloatOps.maximumf v (constant (F := Ideal) S_ .f32 0xFF800000#32) reducesTo_S6x4096x2048_S6x4096_d2 h_S_ (ix2 b s)
      = (Finset.univ : Finset (Fin 2048)).fold max (⊥ : EReal) fun k => v (ix3 b s k) := by
  have hr : S6x4096x2048.Reduces [2] S6x4096 := by decide
  have e := hostReduce_maximumf_eq_multiReduction (F := Ideal) (u := S_) v 0xFF800000#32 reducesTo_S6x4096x2048_S6x4096_d2 h_S_ hr (.inl rfl) rfl
  refine (congrFun e (ix2 b s)).trans ?_
  refine (Ideal.multiReduction_maximumf_single (s := S6x4096x2048) (t := S6x4096) (a := (2 : Fin 3)) v _ hr (.inl rfl) rfl (ix2 b s)).trans ?_
  refine (congrArg (fun z => (Finset.univ : Finset (Fin 2048)).fold max z (v ∘ hr.lift (ix2 b s))) bot_val).trans ?_
  refine Finset.fold_congr fun k _ => congrArg v ?_
  funext a
  match a with
  | ⟨0, _⟩ => rfl
  | ⟨1, _⟩ => rfl
  | ⟨2, _⟩ => rfl

/-- A maximum over the 2048 channels is the largest entry of the row. -/
theorem fold_rowMax (f : ℕ → EReal) : (Finset.univ : Finset (Fin 2048)).fold max (⊥ : EReal) (fun k => f k.val) = rowMax f := by
  refine le_antisymm ?_ ?_
  · rw [Finset.fold_max_le]
    exact ⟨bot_le, fun k _ => Finset.le_sup (f := f) (Finset.mem_range.mpr k.isLt)⟩
  · refine Finset.sup_le fun o ho => ?_
    exact (Finset.le_fold_max _).mpr (Or.inr ⟨⟨o, Finset.mem_range.mp ho⟩, Finset.mem_univ _, le_rfl⟩)

/-- A token's largest magnitude is that of `hR` of its row. -/
theorem max_apply (x0 : Acts) (x1 : Gains) (b : Fin 6) (s : Fin 4096) :
    val_main_v138 x0 x1 (ix2 b s) = rowMax (fun o => ab (hR epsR cR (rowOf x0 b s) (gnOf x1) o)) := by
  unfold val_main_v138
  refine (hostMax_apply _ b s).trans ?_
  rw [← fold_rowMax]
  refine Finset.fold_congr fun k _ => ?_
  rw [val_main_v137_apply, h_apply]
  rfl

/-- The scale of a largest magnitude, as the reference selects it. -/
theorem sel_apply (a : EReal) :
    Scalar.select (FloatOps.cmpf (F := Ideal) (φ := .f32) .oeq a (FloatOps.ofBits .f32 0x00000000#32)) (FloatOps.ofBits .f32 0x3F800000#32 : Ideal .f32)
      (FloatOps.hostDivf (F := Ideal) (φ := .f32) a (FloatOps.ofBits .f32 0x40E00000#32)) = scaleOf a := by
  have e : Scalar.select (FloatOps.cmpf (F := Ideal) (φ := .f32) .oeq a (FloatOps.ofBits .f32 0x00000000#32)) (FloatOps.ofBits .f32 0x3F800000#32 : Ideal .f32)
      (FloatOps.hostDivf (F := Ideal) (φ := .f32) a (FloatOps.ofBits .f32 0x40E00000#32))
      = if BitVec.ofBool (decide (a = (Scalar.ofBits .f32 0x00000000#32 : Ideal .f32))) = 1#1 then (Scalar.ofBits .f32 0x3F800000#32 : Ideal .f32)
        else Ideal.div a (Scalar.ofBits .f32 0x40E00000#32 : Ideal .f32) := rfl
  rw [e, zero_val, one_val, seven_val, scaleOf]
  by_cases h : a = 0
  · simp [h]
  · simp [h]

/-- A token's scale is `scaleR` of its row. -/
theorem scale_apply (x0 : Acts) (x1 : Gains) (b : Fin 6) (s : Fin 4096) :
    val_main_v143 x0 x1 (ix2 b s) = scaleR epsR cR (rowOf x0 b s) (gnOf x1) := by
  rw [val_main_v143_apply, val_main_v140_apply, val_main_v142_apply, max_apply, val_main_v139_apply, val_main_v141_apply,
    val_main_call0_v1_apply, val_main_call0_v0_apply, val_main_cst_4_apply, val_main_cst_5_apply, val_main_cst_6_apply]
  exact sel_apply _

/-! ## The codes -/

/-- Rounding and clipping, as the reference writes them. -/
theorem clip_apply (z : EReal) :
    FloatOps.minimumf (F := Ideal) (φ := .f32) (FloatOps.ofBits .f32 0x40E00000#32)
      (FloatOps.maximumf (F := Ideal) (φ := .f32) (FloatOps.ofBits .f32 0xC0E00000#32) (FloatOps.hostUnary (F := Ideal) (φ := .f32) .roundeven z)) = clip (rnd z) := by
  unfold clip
  rw [← seven_val, ← negseven_val]
  rfl

/-- A token's codes, as numbers, are `codeR` of its row. -/
theorem code_apply (x0 : Acts) (x1 : Gains) (b : Fin 6) (s : Fin 4096) (o : Fin 2048) :
    val_main_v148 x0 x1 (ix3 b s o) = codeR epsR cR (rowOf x0 b s) (gnOf x1) o.val := by
  have e : idx_main_v144 (idx_main_v145 (ix3 b s o)) = ix2 b s := by
    funext a
    match a with
    | ⟨0, _⟩ => rfl
    | ⟨1, _⟩ => rfl
  rw [val_main_v148_apply, val_main_call2_v2_apply, val_main_call2_v4_apply, val_main_call2_v3_apply, val_main_cst_8_apply, val_main_call2_v1_apply,
    val_main_call2_v0_apply, val_main_cst_7_apply, val_main_v147_apply, val_main_v146_apply, val_main_v145_apply, val_main_v144_apply, e, scale_apply, h_apply]
  exact clip_apply _

end Cert.Refr

end
-- ==== Proof.Result.lean ====
module

public import proofs.«01_k».proof.Proof.Reference

@[expose] public section

/-! # The reference's integer codes, weights and result

The integer codes, read back as numbers, are the codes themselves; the unpacked weights are the kernel's; the four partial products are one
product over the 2048 channels. -/

set_option maxRecDepth 16384

noncomputable section

namespace Cert.Refr

open Cert.ReferenceIdeal Cert.ReferenceIdeal.Gen Cert.ReferenceIdeal.Read Idealize.ShloMosaic Idealize.SL.Sem Cert.Had Cert.Rows
open Cert.Kern (epsR cR wv)

/-- The packed weights. -/
abbrev Packed : Type := (⟨S512x1152, .i8⟩ : BufTy).Contents (Elt Ideal)
/-- The weights' scale. -/
abbrev WScale : Type := (⟨S1, .f32⟩ : BufTy).Contents (Elt Ideal)

/-! ## Integers -/

/-- A whole number between −7 and 7 converts to itself. -/
theorem fptosi_whole (w : ℕ) (hw : 4 ≤ w) (n : ℤ) (h1 : -7 ≤ n) (h2 : n ≤ 7) :
    FloatOps.fptosi (F := Ideal) (φ := .f32) w (((n : ℝ) : EReal)) = BitVec.ofInt w n := by
  have hp : (8 : ℕ) ≤ 2 ^ (w - 1) := le_trans (by norm_num) (Nat.pow_le_pow_right (by decide) (show 3 ≤ w - 1 by omega))
  show BitVec.ofInt w (Ideal.toIntClamped (-((2 ^ (w - 1) : ℕ) : ℤ)) (((2 ^ (w - 1) : ℕ) : ℤ) - 1) ((n : ℝ) : EReal)) = _
  rw [Ideal.toIntClamped_coe, Int.floor_intCast, Int.ceil_intCast, ite_self]
  congr 1
  omega

/-- The kernel's 8-bit code is the reference's 32-bit one cut to 8 bits. -/
theorem code8 (x : EReal) :
    FloatOps.fptosi (F := Ideal) (φ := .f32) 8 (clip (rnd x)) = (FloatOps.fptosi (F := Ideal) (φ := .f32) 32 (clip (rnd x))).setWidth 8 := by
  obtain ⟨n, h1, h2, e⟩ := clip_rnd x
  rw [e, fptosi_whole 8 (by decide) n h1 h2, fptosi_whole 32 (by decide) n h1 h2]
  interval_cases n <;> decide

/-- An 8-bit code read back is the code. -/
theorem code_back (x : EReal) :
    FloatOps.sitofp (F := Ideal) .bf16 (((FloatOps.fptosi (F := Ideal) (φ := .f32) 32 (clip (rnd x))).setWidth 8).signExtend 32) = clip (rnd x) := by
  obtain ⟨n, h1, h2, e⟩ := clip_rnd x
  rw [e, fptosi_whole 32 (by decide) n h1 h2]
  have h : ((BitVec.ofInt 32 n).setWidth 8 |>.signExtend 32).toInt = n := by interval_cases n <;> decide
  show ((((BitVec.ofInt 32 n).setWidth 8 |>.signExtend 32).toInt : ℝ) : EReal) = _
  rw [h]

/-- One packed field as the reference unpacks it. -/
theorem wv_host (f : ℕ) (hf : f < 4) (b : BitVec 8) :
    FloatOps.sitofp (F := Ideal) .bf16 (IntOp.subi (IntOp.andi (IntOp.shrsi .host (b.setWidth 32) (BitVec.ofNat 32 (2 * f))) 3#32) 1#32) = wv f b := by
  have h : IntOp.shrsi .host (b.setWidth 32) (BitVec.ofNat 32 (2 * f)) = IntOp.shrsi .vector (b.zeroExtend 32) (BitVec.ofNat 32 (2 * f)) := by
    have hn : (BitVec.ofNat 32 (2 * f)).toNat < 32 := by
      rw [BitVec.toNat_ofNat, Nat.mod_eq_of_lt (by omega)]
      omega
    unfold IntOp.shrsi
    rw [if_pos hn, if_pos hn]
  rw [h]
  rfl

/-! ## The four fields -/

/-- The integer code at a channel, read back. -/
theorem code32_apply (x0 : Acts) (x1 : Gains) (b : Fin 6) (s : Fin 4096) (o : Fin 2048) :
    FloatOps.sitofp (F := Ideal) .bf16 ((val_main_v150 x0 x1 (ix3 b s o)).signExtend 32) = codeR epsR cR (rowOf x0 b s) (gnOf x1) o.val := by
  rw [val_main_v150_apply, val_main_v149_apply, code_apply]
  exact code_back _

/-- A field's share of the product. -/
def share (x : ℕ → EReal) (x2 : Packed) (n : Fin 1152) (f : ℕ) : EReal :=
  ∑ k : Fin 512, x (512 * f + k.val) * wv f (x2 (ix2 k n))

/-- The reference's product of codes and weights, over 512 channels. -/
theorem dot_apply (u : FVec Ideal S6x4096x512 .bf16) (w : FVec Ideal S512x1152 .bf16) (b : Fin 6) (s : Fin 4096) (n : Fin 1152) :
    (Host.dotGeneral dot_S6x4096x512_S512x1152_S6x4096x1152_2_0_01_1_n_n none u w : FVec Ideal S6x4096x1152 .f32) (ix3 b s n)
      = ∑ k : Fin 512, (u (ix3 b s k) : EReal) * w (ix2 k n) := by
  simp only [Host.dotGeneral]
  rw [Ideal.dotGeneral_apply, ← Equiv.sum_comp (ValueIdx.contrEquiv1 dot_S6x4096x512_S512x1152_S6x4096x1152_2_0_01_1_n_n 512 rfl rfl).symm]
  refine Finset.sum_congr rfl fun k _ => ?_
  have hk := ValueIdx.contrEquiv1_symm_val dot_S6x4096x512_S512x1152_S6x4096x1152_2_0_01_1_n_n 512 rfl rfl k
  refine congrArg₂ (· * ·) (congrArg u (funext fun a => Fin.ext ?_)) (congrArg w (funext fun a => Fin.ext ?_))
  · match a with
    | ⟨0, _⟩ => exact lhs_main_v162_0 _ _
    | ⟨1, _⟩ => exact lhs_main_v162_1 _ _
    | ⟨2, _⟩ => exact (lhs_main_v162_2 _ _).trans hk
  · match a with
    | ⟨0, _⟩ => exact (rhs_main_v162_0 _ _).trans hk
    | ⟨1, _⟩ => exact rhs_main_v162_1 _ _

/-- Field `f`: the product of the field's 512 codes with the field's weights is its share. -/
theorem field_apply (f : ℕ) (hf : f < 4) (v : IVec S6x4096x2048 8) (x : ℕ → EReal) (x2 : Packed) (b : Fin 6) (s : Fin 4096) (n : Fin 1152)
    (hv : ∀ o : Fin 2048, FloatOps.sitofp (F := Ideal) .bf16 ((v (ix3 b s o)).signExtend 32) = x o.val)
    (sl : S6x4096x2048.Slices ![0, 0, 512 * f] S6x4096x512) (out : FVec Ideal S6x4096x1152 .f32)
    (hout : out = Host.dotGeneral dot_S6x4096x512_S512x1152_S6x4096x1152_2_0_01_1_n_n none
      (sitofp .bf16 (extsi 32 (extractStridedSlice S6x4096x512 ![0, 0, 512 * f] v sl) natLt_8_32) : FVec Ideal S6x4096x512 .bf16)
      (sitofp .bf16 (subi (andi (Host.shrsi (extui 32 x2 natLt_8_32) (broadcastInDim S512x1152 ![] bcast_S_S512x1152 (constantI S_ 32 (BitVec.ofNat 32 (2 * f)))))
        (broadcastInDim S512x1152 ![] bcast_S_S512x1152 (constantI S_ 32 3#32))) (broadcastInDim S512x1152 ![] bcast_S_S512x1152 (constantI S_ 32 1#32)))
        : FVec Ideal S512x1152 .bf16)) :
    out (ix3 b s n) = share x x2 n f := by
  rw [hout]
  refine (dot_apply _ _ b s n).trans (Finset.sum_congr rfl fun k _ => congrArg₂ (· * ·) ?_ ?_)
  · have hk := k.isLt
    have e : extractStridedSlice S6x4096x512 ![0, 0, 512 * f] v sl (ix3 b s k) = v (ix3 b s ⟨512 * f + k.val, by omega⟩) := by
      refine extractStridedSlice_apply _ _ _ _ _ fun a => ?_
      match a with
      | ⟨0, _⟩ => show b.val = 0 + b.val; omega
      | ⟨1, _⟩ => show s.val = 0 + s.val; omega
      | ⟨2, _⟩ => rfl
    refine Eq.trans ?_ (hv ⟨512 * f + k.val, by omega⟩)
    exact congrArg (fun z : BitVec 8 => FloatOps.sitofp (F := Ideal) .bf16 (z.signExtend 32)) e
  · exact wv_host f hf _

/-- The four shares together are one product over the 2048 channels. -/
theorem shares (x : ℕ → EReal) (x2 : Packed) (n : Fin 1152) :
    share x x2 n 0 + share x x2 n 1 + share x x2 n 2 + share x x2 n 3
      = ∑ k : Fin 2048, x k.val * wv (k.val / 512) (x2 (ix2 ⟨k.val % 512, Nat.mod_lt _ (by decide)⟩ n)) := by
  have hs (f : ℕ) : share x x2 n f = ∑ k ∈ Finset.range 512,
      x (512 * f + k) * wv ((512 * f + k) / 512) (x2 (ix2 ⟨(512 * f + k) % 512, Nat.mod_lt _ (by decide)⟩ n)) := by
    unfold share
    rw [Finset.sum_range]
    refine Finset.sum_congr rfl fun k _ => ?_
    have hk := k.isLt
    have h1 : (512 * f + k.val) / 512 = f := by omega
    have h2 : (⟨(512 * f + k.val) % 512, Nat.mod_lt _ (by decide)⟩ : Fin 512) = k := Fin.ext (by show (512 * f + k.val) % 512 = k.val; omega)
    rw [h1, h2]
  rw [← Finset.sum_range (fun k => x k * wv (k / 512) (x2 (ix2 ⟨k % 512, Nat.mod_lt _ (by decide)⟩ n))), hs 0, hs 1, hs 2, hs 3,
    show 2048 = 512 + 512 + 512 + 512 from rfl, Finset.sum_range_add, Finset.sum_range_add, Finset.sum_range_add]
  simp only [Nat.mul_zero, Nat.zero_add]

/-! ## The result -/

/-- The sum of the four partial products is the product over the 2048 channels. -/
theorem product_apply (x0 : Acts) (x1 : Gains) (x2 : Packed) (b : Fin 6) (s : Fin 4096) (n : Fin 1152) :
    val_main_v201 x0 x1 x2 (ix3 b s n) = ∑ k : Fin 2048, codeR epsR cR (rowOf x0 b s) (gnOf x1) k.val
      * wv (k.val / 512) (x2 (ix2 ⟨k.val % 512, Nat.mod_lt _ (by decide)⟩ n)) := by
  have hv := code32_apply x0 x1 b s
  have h0 := field_apply 0 (by decide) (val_main_v150 x0 x1) _ x2 b s n hv slices_S6x4096x2048_S6x4096x512_0_0_0 (val_main_v162 x0 x1 x2) rfl
  have h1 := field_apply 1 (by decide) (val_main_v150 x0 x1) _ x2 b s n hv slices_S6x4096x2048_S6x4096x512_0_0_512 (val_main_v174 x0 x1 x2) rfl
  have h2 := field_apply 2 (by decide) (val_main_v150 x0 x1) _ x2 b s n hv slices_S6x4096x2048_S6x4096x512_0_0_1024 (val_main_v187 x0 x1 x2) rfl
  have h3 := field_apply 3 (by decide) (val_main_v150 x0 x1) _ x2 b s n hv slices_S6x4096x2048_S6x4096x512_0_0_1536 (val_main_v200 x0 x1 x2) rfl
  rw [val_main_v201_apply, val_main_v188_apply, val_main_v175_apply, h0, h1, h2, h3, ← shares]
  rfl

/-- The weight scale as a scalar. -/
theorem wscale_apply (x3 : WScale) (i : S_.Idx) : val_main_v205 x3 i = x3 (ix1 0) := by
  unfold val_main_v205
  refine shapeCast_apply (s := S1) (t := S_) x3 _ _ _ ?_
  rw [Shape.rowMajor_val_one]
  have := ((S_ : Shape).rowMajor i).isLt
  have h : (S_ : Shape).numel = 1 := by decide
  show 0 = _
  omega

/-- The reference's result: the codes' product with the weights, times the scale of the token and the scale of the weights. -/
theorem y_apply (x0 : Acts) (x1 : Gains) (x2 : Packed) (x3 : WScale) (b : Fin 6) (s : Fin 4096) (n : Fin 1152) :
    val_main_v208 x0 x1 x2 x3 (ix3 b s n) = (∑ k : Fin 2048, codeR epsR cR (rowOf x0 b s) (gnOf x1) k.val
      * wv (k.val / 512) (x2 (ix2 ⟨k.val % 512, Nat.mod_lt _ (by decide)⟩ n))) * (scaleR epsR cR (rowOf x0 b s) (gnOf x1) * x3 (ix1 0)) := by
  have e : idx_main_v202 (idx_main_v203 (ix3 b s n)) = ix2 b s := by
    funext a
    match a with
    | ⟨0, _⟩ => rfl
    | ⟨1, _⟩ => rfl
  rw [val_main_v208_apply, val_main_v207_apply, val_main_v204_apply, val_main_v203_apply, val_main_v202_apply, e, scale_apply, product_apply,
    val_main_v206_apply, wscale_apply, ← mul_assoc]
  rfl

end Cert.Refr

end
-- ==== Proof.Equation.lean ====
module

public import proofs.«01_k».proof.Proof.Grid
public import proofs.«01_k».proof.Proof.Result

@[expose] public section

/-! # The kernel's arrays are the reference's results

Row `i` of the kernel's arrays is row `i % 256` of the block of grid point `i / 256`, and token `i % 4096` of sequence `i / 4096` in the reference. -/

set_option maxRecDepth 16384

noncomputable section

namespace Cert.Eqn

open Idealize.ShloMosaic Idealize.SL.Sem Cert.KernelIdeal Cert.KernelIdeal.Gen Cert.KernelIdeal.Value Cert.Kern Cert.Refr Cert.Rows
open Idealize.ShloMosaic.TcCoe Idealize.ShloMosaic.Tactic

variable (m : (ℓ : Loc nD τ sig) → Buf (Elt Ideal) ℓ)

/-- The activations the kernel starts from. -/
def a0 (c : Dev nD) : Acts := m ((c : Thread nD τ).loc main_arg0)
/-- The gains the kernel starts from. -/
def a1 (c : Dev nD) : Gains := m ((c : Thread nD τ).loc main_arg1)
/-- The packed weights the kernel starts from. -/
def a2 (c : Dev nD) : Packed := m ((c : Thread nD τ).loc main_arg2)
/-- The weight scale the kernel starts from. -/
def a3 (c : Dev nD) : WScale := m ((c : Thread nD τ).loc main_arg3)

/-- The gains of the kernel's column are the reference's gains. -/
theorem gain_eq (c : Dev nD) : gainOf (gcol m c) = gnOf (a1 m c) := rfl

/-- A row of a point's block is a token's row. -/
theorem row_of_block (c : Dev nD) (t : Fin cfg0.N) (p : Fin 256) (b : Fin 6) (s : Fin 4096) (h : 4096 * b.val + s.val = 256 * t.val + p.val) :
    rowX (iblk m c 0 t) p = rowOf (a0 m c) b s := by
  funext j
  unfold rowX rowOf
  by_cases hj : j < 2048
  · rw [dif_pos hj, dif_pos hj]
    exact blk0 m c t (ix2 p ⟨j, hj⟩) (ix3 b s ⟨j, hj⟩) h rfl
  · rw [dif_neg hj, dif_neg hj]

/-- An index of a matrix is its two coordinates. -/
theorem eta2 {a b : ℕ} (i : (⟨2, ![a, b]⟩ : Shape).Idx) : i = ix2 (i 0) (i 1) := by
  funext k
  match k with
  | ⟨0, _⟩ => rfl
  | ⟨1, _⟩ => rfl

/-- The grid point of a row. -/
def ptOf (r : Fin 24576) : Fin cfg0.N := ⟨r.val / 256, by have h : cfg0.N = 96 := N_0; omega⟩
/-- The row's place in the point's block. -/
def inOf (r : Fin 24576) : Fin 256 := ⟨r.val % 256, Nat.mod_lt _ (by decide)⟩
/-- The row's sequence. -/
def seqOf (r : Fin 24576) : Fin 6 := ⟨r.val / 4096, by omega⟩
/-- The row's token. -/
def tokOf (r : Fin 24576) : Fin 4096 := ⟨r.val % 4096, Nat.mod_lt _ (by decide)⟩

/-- A row is its place in its point's block. -/
theorem split (r : Fin 24576) : r.val = 256 * (ptOf r).val + (inOf r).val := by
  show r.val = 256 * (r.val / 256) + r.val % 256
  omega

/-- Every row of the kernel is its token of the reference. -/
theorem row_at (c : Dev nD) (r : Fin 24576) : rowX (iblk m c 0 (ptOf r)) (inOf r) = rowOf (a0 m c) (seqOf r) (tokOf r) := by
  refine row_of_block m c _ _ _ _ ?_
  show 4096 * (r.val / 4096) + r.val % 4096 = 256 * (r.val / 256) + r.val % 256
  omega

/-- The scales agree. -/
theorem scales_eq (c : Dev nD) (r : Fin 24576) : G6 m c (ix2 r 0) = Cert.ReferenceIdeal.Read.val_main_v211 (a0 m c) (a1 m c) (ix2 r 0) := by
  have e : Cert.ReferenceIdeal.Read.idx_main_v211 (ix2 r 0) = ix2 (seqOf r) (tokOf r) := by
    funext a
    apply Fin.ext
    match a with
    | ⟨0, _⟩ => show (r.val * 1 + 0) / 4096 = r.val / 4096; omega
    | ⟨1, _⟩ => show (r.val * 1 + 0) % 4096 = r.val % 4096; omega
  rw [Cert.ReferenceIdeal.Read.val_main_v211_apply, e, scale_apply]
  refine (G6_eq m c (ptOf r) (inOf r) (ix2 r 0) (split r)).trans ?_
  rw [SC_apply, row_at, gain_eq]
  exact (row_eq epsR cR epsR_pos cR_pos _ _).1

/-- The codes agree. -/
theorem codes_eq (c : Dev nD) (r : Fin 24576) (n : Fin 2048) : G5 m c (ix2 r n) = Cert.ReferenceIdeal.Read.val_main_v210 (a0 m c) (a1 m c) (ix2 r n) := by
  have hl := n.isLt
  have e : Cert.ReferenceIdeal.Read.idx_main_v210 (ix2 r n) = ix3 (seqOf r) (tokOf r) n := by
    funext a
    apply Fin.ext
    match a with
    | ⟨0, _⟩ => show (r.val * 2048 + n.val) / 8388608 = r.val / 4096; omega
    | ⟨1, _⟩ => show (r.val * 2048 + n.val) / 2048 % 4096 = r.val % 4096; omega
    | ⟨2, _⟩ => show (r.val * 2048 + n.val) % 2048 = n.val; omega
  rw [Cert.ReferenceIdeal.Read.val_main_v210_apply, e, Cert.ReferenceIdeal.Read.val_main_v150_apply, Cert.ReferenceIdeal.Read.val_main_v149_apply]
  rw [show Cert.ReferenceIdeal.Read.val_main_v148 (a0 m c) (a1 m c) (ix3 (seqOf r) (tokOf r) n) = _ from code_apply (a0 m c) (a1 m c) (seqOf r) (tokOf r) n]
  refine (G5_eq m c (ptOf r) (inOf r) n (ix2 r n) (split r) rfl).trans ?_
  refine Eq.trans ?_ (code8 _)
  refine congrArg (FloatOps.fptosi (F := Ideal) (φ := .f32) 8) ?_
  refine (CODE_apply _ _ _ _).trans ?_
  rw [row_at, gain_eq]
  exact (row_eq epsR cR epsR_pos cR_pos _ _).2 _ hl

/-- The results agree. -/
theorem y_eq (c : Dev nD) (r : Fin 24576) (n : Fin 1152) : G4 m c (ix2 r n) = Cert.ReferenceIdeal.Read.val_main_v209 (a0 m c) (a1 m c) (a2 m c) (a3 m c) (ix2 r n) := by
  have hl := n.isLt
  have e : Cert.ReferenceIdeal.Read.idx_main_v209 (ix2 r n) = ix3 (seqOf r) (tokOf r) n := by
    funext a
    apply Fin.ext
    match a with
    | ⟨0, _⟩ => show (r.val * 1152 + n.val) / 4718592 = r.val / 4096; omega
    | ⟨1, _⟩ => show (r.val * 1152 + n.val) / 1152 % 4096 = r.val % 4096; omega
    | ⟨2, _⟩ => show (r.val * 1152 + n.val) % 1152 = n.val; omega
  rw [Cert.ReferenceIdeal.Read.val_main_v209_apply, e]
  refine Eq.trans ?_ (y_apply (a0 m c) (a1 m c) (a2 m c) (a3 m c) (seqOf r) (tokOf r) n).symm
  refine (G4_eq m c (ptOf r) (inOf r) n (ix2 r n) (split r) rfl).trans ?_
  refine (YV_apply _ _ _ _ _ _).trans ?_
  rw [row_at, gain_eq]
  obtain ⟨hs, hc⟩ := row_eq epsR cR epsR_pos cR_pos (rowOf (a0 m c) (seqOf r) (tokOf r)) (gnOf (a1 m c))
  rw [hs]
  refine congrArg₂ (· * ·) (Finset.sum_congr rfl fun k _ => ?_) rfl
  rw [hc _ k.isLt]
  rfl

/-- The result arrays are equal. -/
theorem y_all (c : Dev nD) : G4 m c = Cert.ReferenceIdeal.Read.val_main_v209 (a0 m c) (a1 m c) (a2 m c) (a3 m c) := by
  funext i
  refine (congrArg (G4 m c) (eta2 i)).trans ((y_eq m c (i 0) (i 1)).trans ?_)
  exact congrArg (Cert.ReferenceIdeal.Read.val_main_v209 (a0 m c) (a1 m c) (a2 m c) (a3 m c)) (eta2 i).symm

/-- The codes' arrays are equal. -/
theorem codes_all (c : Dev nD) : G5 m c = Cert.ReferenceIdeal.Read.val_main_v210 (a0 m c) (a1 m c) := by
  funext i
  refine (congrArg (G5 m c) (eta2 i)).trans ((codes_eq m c (i 0) (i 1)).trans ?_)
  exact congrArg (Cert.ReferenceIdeal.Read.val_main_v210 (a0 m c) (a1 m c)) (eta2 i).symm

/-- The scales' arrays are equal. -/
theorem scales_all (c : Dev nD) : G6 m c = Cert.ReferenceIdeal.Read.val_main_v211 (a0 m c) (a1 m c) := by
  funext i
  have h : i = ix2 (i 0) 0 := (eta2 i).trans (congrArg (ix2 (i 0)) (Subsingleton.elim (α := Fin 1) (i 1) 0))
  refine (congrArg (G6 m c) h).trans ((scales_eq m c (i 0)).trans ?_)
  exact congrArg (Cert.ReferenceIdeal.Read.val_main_v211 (a0 m c) (a1 m c)) h.symm

end Cert.Eqn

end
-- ==== Proof.RefRun.lean ====
module

public import proofs.«01_k».proof.Proof.Gen.ReferenceIdeal.Run
public import proofs.«01_k».proof.Proof.Gen.ReferenceIdeal.Read

@[expose] public section

/-! # The reference's run, its results named -/

set_option maxRecDepth 16384

noncomputable section

namespace Cert.Refr

open Cert.ReferenceIdeal Cert.ReferenceIdeal.Gen Cert.ReferenceIdeal.Read Idealize.ShloMosaic Idealize.ShloMosaic.TcCoe Idealize.SL.Sem Idealize.ShloMosaic.StableHlo

variable (m : (ℓ : Loc nD τ sig) → Buf (Elt Ideal) ℓ)

/-- The arguments the reference starts from. -/
theorem launch0 (c : Dev nD) : launchContents m c (Proc.devRef .tc main_arg0) = m ((c.tc : Thread nD τ).loc main_arg0) := rfl
/-- The gains the reference starts from. -/
theorem launch1 (c : Dev nD) : launchContents m c (Proc.devRef .tc main_arg1) = m ((c.tc : Thread nD τ).loc main_arg1) := rfl
/-- The packed weights the reference starts from. -/
theorem launch2 (c : Dev nD) : launchContents m c (Proc.devRef .tc main_arg2) = m ((c.tc : Thread nD τ).loc main_arg2) := rfl
/-- The weight scale the reference starts from. -/
theorem launch3 (c : Dev nD) : launchContents m c (Proc.devRef .tc main_arg3) = m ((c.tc : Thread nD τ).loc main_arg3) := rfl

/-- The reference leaves the named values of its arguments in its results, and its arguments as they were. -/
theorem run_named (ρ : Dev nD → PrngReg) (x0 : Dev nD → (⟨S6x4096x2048, .bf16⟩ : BufTy).Contents (Elt Ideal)) (x1 : Dev nD → (⟨S2048, .f32⟩ : BufTy).Contents (Elt Ideal))
    (x2 : Dev nD → (⟨S512x1152, .i8⟩ : BufTy).Contents (Elt Ideal)) (x3 : Dev nD → (⟨S1, .f32⟩ : BufTy).Contents (Elt Ideal))
    (h0 : ∀ c : Dev nD, m ((c.tc : Thread nD τ).loc main_arg0) = x0 c) (h1 : ∀ c : Dev nD, m ((c.tc : Thread nD τ).loc main_arg1) = x1 c)
    (h2 : ∀ c : Dev nD, m ((c.tc : Thread nD τ).loc main_arg2) = x2 c) (h3 : ∀ c : Dev nD, m ((c.tc : Thread nD τ).loc main_arg3) = x3 c) :
    θ_run defs (onTc (τ := τ) (main (F := Ideal))) ⟨m, fun _ => 0, ρ⟩ fun r => ∀ c : Dev nD,
      r.2.mem ((c.tc : Thread nD τ).loc main_v209) = val_main_v209 (F := Ideal) (x0 c) (x1 c) (x2 c) (x3 c)
      ∧ r.2.mem ((c.tc : Thread nD τ).loc main_v210) = val_main_v210 (F := Ideal) (x0 c) (x1 c)
      ∧ r.2.mem ((c.tc : Thread nD τ).loc main_v211) = val_main_v211 (F := Ideal) (x0 c) (x1 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceIdeal.Value.run (F := Ideal) m ρ)
  have e0 := (launch0 m c).trans (h0 c)
  have e1 := (launch1 m c).trans (h1 c)
  have e2 := (launch2 m c).trans (h2 c)
  have e3 := (launch3 m c).trans (h3 c)
  have hy := (h c).1.trans (val_main_v209_eq (F := Ideal) (launchContents m c))
  have hq := (h c).2.1.trans (val_main_v210_eq (F := Ideal) (launchContents m c))
  have hs := (h c).2.2.1.trans (val_main_v211_eq (F := Ideal) (launchContents m c))
  rw [e0, e1, e2, e3] at hy
  rw [e0, e1] at hq hs
  exact ⟨hy, hq, hs, (h c).2.2.2⟩

end Cert.Refr

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import proofs.«01_k».proof.Proof.RefRun
public import Idealize.ShloMosaic.Adequacy
public import Idealize.ShloMosaic.Init

@[expose] public section

noncomputable section

namespace Cert.Proof

open Idealize.ShloMosaic Idealize.SL.Sem

/-- The reference terminates from every memory, leaves its arguments as they were and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- From memories that agree on the arguments, the kernel and the reference both leave, in each of the three results, the same array of
    extended reals or integers, and keep their arguments. -/
theorem values : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Value.G4 m c, fun c => Cert.KernelIdeal.Value.G5 m c, fun c => Cert.KernelIdeal.Value.G6 m c,
    Cert.KernelIdeal.Value.run m g, ?_⟩
  refine (θ_run Cert.ReferenceIdeal.defs _ _).mono (fun r h c => ?_)
    (Cert.Refr.run_named m' g' (Cert.Eqn.a0 m) (Cert.Eqn.a1 m) (Cert.Eqn.a2 m) (Cert.Eqn.a3 m) (fun c => (hagree c).1) (fun c => (hagree c).2.1)
      (fun c => (hagree c).2.2.1) (fun c => (hagree c).2.2.2))
  obtain ⟨hy, hq, hs, hk⟩ := h c
  exact ⟨hy.trans (Cert.Eqn.y_all m c).symm, hq.trans (Cert.Eqn.codes_all m c).symm, hs.trans (Cert.Eqn.scales_all m c).symm, hk⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, values⟩

end Cert.Proof

end
